-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x1024 : Shape := ⟨2, ![1024, 1024]⟩
abbrev S4096x1024 : Shape := ⟨2, ![4096, 1024]⟩
abbrev S4x256x1024 : Shape := ⟨3, ![4, 256, 1024]⟩
abbrev S1024x256 : Shape := ⟨2, ![1024, 256]⟩
abbrev S2x8x256 : Shape := ⟨3, ![2, 8, 256]⟩
abbrev S3x1024x256 : Shape := ⟨3, ![3, 1024, 256]⟩
abbrev S3x2x8x256 : Shape := ⟨4, ![3, 2, 8, 256]⟩
abbrev S6x3 : Shape := ⟨2, ![6, 3]⟩
abbrev S_ : Shape := ⟨0, ![]⟩
abbrev S1x256x1024 : Shape := ⟨3, ![1, 256, 1024]⟩
abbrev S1x1 : Shape := ⟨2, ![1, 1]⟩
abbrev S1x256x128 : Shape := ⟨3, ![1, 256, 128]⟩
abbrev S256x128 : Shape := ⟨2, ![256, 128]⟩
abbrev S4096x128 : Shape := ⟨2, ![4096, 128]⟩
abbrev S4096x256 : Shape := ⟨2, ![4096, 256]⟩
abbrev S256 : Shape := ⟨1, ![256]⟩
abbrev S1x256 : Shape := ⟨2, ![1, 256]⟩
abbrev S128x256 : Shape := ⟨2, ![128, 256]⟩
abbrev S1x1024x256 : Shape := ⟨3, ![1, 1024, 256]⟩
abbrev S1x2x8x256 : Shape := ⟨4, ![1, 2, 8, 256]⟩
abbrev S1x1x256 : Shape := ⟨3, ![1, 1, 256]⟩
abbrev S1x1x1x256 : Shape := ⟨4, ![1, 1, 1, 256]⟩
abbrev S1x128x256 : Shape := ⟨3, ![1, 128, 256]⟩

abbrev nBuf : Space → Nat
  | .hbm => 6
  | .vmem => 13
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S256x1024, .f32⟩
  | .local _ .vmem, ⟨0, _⟩ => ⟨S256x1024, .f32⟩
  | .local _ .vmem, ⟨1, _⟩ => ⟨S1024x1024, .f32⟩
  | .local _ .vmem, ⟨2, _⟩ => ⟨S1024x1024, .f32⟩
  | .local _ .vmem, ⟨3, _⟩ => ⟨S4096x1024, .f32⟩
  | .local _ .vmem, ⟨4, _⟩ => ⟨S4096x1024, .f32⟩
  | .local _ .vmem, ⟨5, _⟩ => ⟨S256x1024, .f32⟩
  | .local _ .vmem, ⟨6, _⟩ => ⟨S4x256x1024, .f32⟩
  | .local _ .vmem, ⟨7, _⟩ => ⟨S1024x256, .f32⟩
  | .local _ .vmem, ⟨8, _⟩ => ⟨S2x8x256, .f32⟩
  | .local _ .vmem, ⟨9, _⟩ => ⟨S3x1024x256, .f32⟩
  | .local _ .vmem, ⟨10, _⟩ => ⟨S3x2x8x256, .f32⟩
  | .local _ .vmem, ⟨11, _⟩ => ⟨S3x1024x256, .f32⟩
  | .local _ .vmem, ⟨12, _⟩ => ⟨S3x2x8x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_33 : BitVec 32 := 1#32
  let v41 : BitVec 32 := Scalar.muli v25 c1_i32_33
  let v42 : BitVec 32 := Scalar.addi c0_i32_34 v41
  v42.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_57 : BitVec 32 := 1#32
  let v59 : BitVec 32 := Scalar.muli v25 c1_i32_57
  let v60 : BitVec 32 := Scalar.addi c0_i32_58 v59
  v60.toNat
def k0_dev5 (d0 : Dev nD) : Nat :=
  let c0_i32_295 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_294 : BitVec 32 := 1#32
  let v325 : BitVec 32 := Scalar.muli v25 c1_i32_294
  let v326 : BitVec 32 := Scalar.addi c0_i32_295 v325
  v326.toNat
def k0_dev6 (d0 : Dev nD) : Nat :=
  let c0_i32_306 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_305 : BitVec 32 := 1#32
  let v335 : BitVec 32 := Scalar.muli v25 c1_i32_305
  let v336 : BitVec 32 := Scalar.addi c0_i32_306 v335
  v336.toNat
def k0_dev7 (d0 : Dev nD) : Nat :=
  let c0_i32_332 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_331 : BitVec 32 := 1#32
  let v353 : BitVec 32 := Scalar.muli v25 c1_i32_331
  let v354 : BitVec 32 := Scalar.addi c0_i32_332 v353
  v354.toNat
def k0_dev8 (d0 : Dev nD) : Nat :=
  let c0_i32_826 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_825 : BitVec 32 := 1#32
  let v947 : BitVec 32 := Scalar.muli v25 c1_i32_825
  let v948 : BitVec 32 := Scalar.addi c0_i32_826 v947
  v948.toNat
def k0_dev9 (d0 : Dev nD) : Nat :=
  let c0_i32_838 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_837 : BitVec 32 := 1#32
  let v957 : BitVec 32 := Scalar.muli v25 c1_i32_837
  let v958 : BitVec 32 := Scalar.addi c0_i32_838 v957
  v958.toNat
def k0_dev10 (d0 : Dev nD) : Nat :=
  let c0_i32_1346 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1345 : BitVec 32 := 1#32
  let v1559 : BitVec 32 := Scalar.muli v25 c1_i32_1345
  let v1560 : BitVec 32 := Scalar.addi c0_i32_1346 v1559
  v1560.toNat
def k0_dev11 (d0 : Dev nD) : Nat :=
  let c0_i32_1358 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1357 : BitVec 32 := 1#32
  let v1569 : BitVec 32 := Scalar.muli v25 c1_i32_1357
  let v1570 : BitVec 32 := Scalar.addi c0_i32_1358 v1569
  v1570.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x1024 : Shape := ⟨2, ![1024, 1024]⟩
abbrev S16384x1024 : Shape := ⟨2, ![16384, 1024]⟩
abbrev S1024x8x128 : Shape := ⟨3, ![1024, 8, 128]⟩
abbrev S16384x8x128 : Shape := ⟨3, ![16384, 8, 128]⟩
abbrev S8x1024x16384 : Shape := ⟨3, ![8, 1024, 16384]⟩
abbrev S_ : Shape := ⟨0, ![]⟩
abbrev S8x1024 : Shape := ⟨2, ![8, 1024]⟩
abbrev S8x1024x1 : Shape := ⟨3, ![8, 1024, 1]⟩
abbrev S8x128x1024 : Shape := ⟨3, ![8, 128, 1024]⟩
abbrev S1024x8 : Shape := ⟨2, ![1024, 8]⟩
abbrev S1024x8x1 : Shape := ⟨3, ![1024, 8, 1]⟩

abbrev nBuf : Space → Nat
  | .hbm => 29
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S1024x1024, .f32⟩
  | .hbm, ⟨6, _⟩ => ⟨S1024x8x128, .f32⟩
  | .hbm, ⟨7, _⟩ => ⟨S16384x8x128, .f32⟩
  | .hbm, ⟨8, _⟩ => ⟨S16384x8x128, .f32⟩
  | .hbm, ⟨9, _⟩ => ⟨S8x1024x16384, .f32⟩
  | .hbm, ⟨10, _⟩ => ⟨S_, .f32⟩
  | .hbm, ⟨11, _⟩ => ⟨S8x1024x16384, .f32⟩
  | .hbm, ⟨12, _⟩ => ⟨S8x1024x16384, .f32⟩
  | .hbm, ⟨13, _⟩ => ⟨S_, .f32⟩
  | .hbm, ⟨14, _⟩ => ⟨S8x1024, .f32⟩
  | .hbm, ⟨15, _⟩ => ⟨S8x1024x1, .f32⟩
  | .hbm, ⟨16, _⟩ => ⟨S8x1024x16384, .f32⟩
  | .hbm, ⟨17, _⟩ => ⟨S8x1024x16384, .f32⟩
  | .hbm, ⟨18, _⟩ => ⟨S8x1024x16384, .f32⟩
  | .hbm, ⟨19, _⟩ => ⟨S_, .f32⟩
  | .hbm, ⟨20, _⟩ => ⟨S8x1024, .f32⟩
  | .hbm, ⟨21, _⟩ => ⟨S8x128x1024, .f32⟩
  | .hbm, ⟨22, _⟩ => ⟨S1024x8x128, .f32⟩
  | .hbm, ⟨23, _⟩ => ⟨S1024x8, .f32⟩
  | .hbm, ⟨24, _⟩ => ⟨S1024x8x1, .f32⟩
  | .hbm, ⟨25, _⟩ => ⟨S1024x8x128, .f32⟩
  | .hbm, ⟨26, _⟩ => ⟨S1024x8x128, .f32⟩
  | .hbm, ⟨27, _⟩ => ⟨S1024x1024, .f32⟩
  | .hbm, ⟨28, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Mem.lean ====
/- Loads and stores through a memref that is owned at known contents, and through a memref of which
   one slice is owned. -/
module

public import Idealize.ShloMosaic.Lib.Memref
public import Idealize.ShloMosaic.Lib.MemrefSat
public import Idealize.ShloMosaic.Lib.ValueLayout
public import Idealize.ShloMosaic.Rules.Step

@[expose] public section

noncomputable section

namespace Cert.Mem

open Idealize.ShloMosaic
open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name] {U : Type} [URA U]
variable {Lvl : Type} {Λ : Labels} [Preorder Lvl]
local notation "𝕄" => MT nD τ sig Ix Val Name U Lvl

variable {defs : Defs nD τ sig Val Λ} (𝒱 : Variants) (c : Thread nD τ)
  (bd : Option 𝒱.V) {Γ : PendingWaitsCtx sig Ix} (E : Set Name) {s : Shape} {e : EltTy}
  {α : Type} {Q : α → sProp (MT nD τ sig Ix Val Name U Lvl)}

omit [DecidableEq Ix] [DecidableEq Name] [URA U] [Preorder Lvl] in
/-- The rectangle of all elements reads them all; -/
theorem ld_whole {t : Shape} {A : Type} {off : Fin t.rank → Nat} (h : off = fun _ => 0)
    (inb : ∀ a, off a + t.size a ≤ t.size a) (X : t.Idx → A) :
    (fun j => X ((Rect.unit (s := t) off t.size inb).emb j)) = X := by
  subst h
  funext j
  congr 1
  funext a
  exact Fin.ext (by show 0 + 1 * (j a).val = (j a).val; omega)

omit [DecidableEq Ix] [DecidableEq Name] [URA U] [Preorder Lvl] in
/-- stores over it replace them all. -/
theorem st_whole {t : Shape} {A : Type} {off : Fin t.rank → Nat} (h : off = fun _ => 0)
    (inb : ∀ a, off a + t.size a ≤ t.size a) (X w : t.Idx → A) :
    (Rect.unit (s := t) off t.size inb).overlay X w = w := by
  have := ld_whole h inb ((Rect.unit (s := t) off t.size inb).overlay X w)
  rw [← this]
  funext j
  exact Rect.overlay_emb _ _ _ _

/-- A load of a rectangle of a memref owned at `X` reads `X` there. -/
theorem wp_ld {cs : CoreSpace} {m : Memref sig c.2.kind cs s e} {r : Rect s}
    {hl : m.view.LoadsAt r} {k : (r.shape.Idx → Val e) → Prog (TpuEff nD τ sig Val Λ c.2) α}
    {q : PosShare TreeShare} {X : s.Idx → Val e} :
    (owns c m q X : sProp 𝕄)
      ⊢ iprop((owns c m q X -∗ wp frame (wpE' defs 𝒱 c bd Γ) E (k (fun j => X (r.emb j))) Q)
        -∗ wp frame (wpE' defs 𝒱 c bd Γ) E (.op (.load m r hl) k) Q) := by
  unfold owns
  iintro ⟨%f, %hf, H⟩ HK
  iapply (wp_load 𝒱 c bd E (m := m) (r := r) (hl := hl) (k := k) (View.setOn_subset_set _ _)) $$ H
  iintro H
  have hk : (fun j => X (r.emb j)) = m.view.readAt Val r f := by
    funext j; rw [← hf]; rfl
  rw [hk]
  iapply HK
  iexists f
  isplitr
  · ipureintro; exact hf
  · iexact H

/-- A load of a rectangle within a slice of a memref, the slice owned at `X`: it reads `X` at the
    places `g` of the slice. -/
theorem wp_ld_slice {cs : CoreSpace} {m : Memref sig c.2.kind cs s e} {r ρ : Rect s}
    (hρ : ∀ a, ρ.stride a = 1)
    {hl : m.view.LoadsAt r} {k : (r.shape.Idx → Val e) → Prog (TpuEff nD τ sig Val Λ c.2) α}
    {q : PosShare TreeShare} {X : ρ.shape.Idx → Val e} (g : r.shape.Idx → ρ.shape.Idx)
    (hg : ∀ j, ρ.emb (g j) = r.emb j) :
    (owns c (m.slice ρ hρ) q X : sProp 𝕄)
      ⊢ iprop((owns c (m.slice ρ hρ) q X
          -∗ wp frame (wpE' defs 𝒱 c bd Γ) E (k (fun j => X (g j))) Q)
        -∗ wp frame (wpE' defs 𝒱 c bd Γ) E (.op (.load m r hl) k) Q) := by
  unfold owns
  iintro ⟨%f, %hf, H⟩ HK
  have hsub : m.view.setOn r.set ⊆ (m.slice ρ hρ).view.set := by
    show m.view.setOn r.set ⊆ (m.view.slice ρ).set
    rw [View.set_slice]
    refine Finset.map_subset_map.mpr fun x hx => ?_
    obtain ⟨j, rfl⟩ := r.exists_idx_of_mem hx
    show r.emb j ∈ ρ.set
    rw [← hg, ← Rect.map_emb_univ]
    exact Finset.mem_map_of_mem _ (Finset.mem_univ _)
  iapply (wp_load 𝒱 c bd E (m := m) (r := r) (hl := hl) (k := k) hsub) $$ H
  iintro H
  have hk : (fun j => X (g j)) = m.view.readAt Val r f := by
    funext j; rw [← hf]
    show m.view.read Val f (ρ.emb (g j)) = m.view.read Val f (r.emb j)
    rw [hg]
  rw [hk]
  iapply HK
  iexists f
  isplitr
  · ipureintro; exact hf
  · iexact H

/-- A store to a rectangle of a memref owned at `X` leaves `X` with the stored values over it. -/
theorem wp_st {cs : CoreSpace} {m : Memref sig c.2.kind cs s e} {r : Rect s}
    {w : r.shape.Idx → Val e} {hx : (m.access r).Stores Finset.univ}
    {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w)
          -∗ wp frame (wpE' defs 𝒱 c bd Γ) E (k ⟨⟩) Q)
        -∗ wp frame (wpE' defs 𝒱 c bd Γ) E (.op (.store m r w Finset.univ hx hm) k) Q) := by
  unfold owns
  iintro ⟨%f, %hf, H⟩ HK
  iapply (wp_store 𝒱 c bd E (m := m) (r := r) (w := w) (hx := hx) (hm := hm) (k := k)
    (S := m.view.set) (View.set_slice_subset _ _)) $$ H
  iintro H
  iapply HK
  iexists ((m.access r).write Val f w Finset.univ)
  isplitr
  · ipureintro
    funext j
    by_cases hj : j ∈ r.set
    · obtain ⟨i, rfl⟩ := r.exists_idx_of_mem hj
      show m.view.read Val _ (r.emb i) = r.overlay X w (r.emb i)
      rw [Rect.overlay_emb]
      exact View.read_slice_write_emb r f w (Finset.mem_univ i)
    · rw [Rect.overlay_of_not_mem _ _ _ hj, ← hf]
      exact View.read_slice_write_of_not_mem r f w Finset.univ (by rw [Rect.map_emb_univ]; exact hj)
  · iexact H

/-- A store of a whole slice of a memref, the slice owned. -/
theorem wp_st_slice {cs : CoreSpace} {m : Memref sig c.2.kind cs s e} {r : Rect s}
    (hr : ∀ a, r.stride a = 1)
    {w : r.shape.Idx → Val e} {hx : (m.access r).Stores Finset.univ}
    {hm : (Finset.univ : Finset r.shape.Idx) = Finset.univ ∨ ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w
          -∗ wp frame (wpE' defs 𝒱 c bd Γ) E (k ⟨⟩) Q)
        -∗ wp frame (wpE' defs 𝒱 c bd Γ) E (.op (.store m r w Finset.univ hx hm) k) Q) := by
  unfold owns
  iintro ⟨%f, %hf, H⟩ HK
  iapply (wp_store 𝒱 c bd E (m := m) (r := r) (w := w) (hx := hx) (hm := hm) (k := k)
    (S := (m.view.slice r).set) (Finset.Subset.refl _)) $$ H
  iintro H
  iapply HK
  iexists ((m.access r).write Val f w Finset.univ)
  isplitr
  · ipureintro
    exact View.read_write_univ f w
  · iexact H

/-- Owning a squeezed memref is owning the memref, its contents read at the places of the squeezed
    shape. -/
theorem owns_squeeze {sp : Space} (m : Memref sig c.2.kind sp s e) (s' : Shape) (h : s.Squeezes s')
    (q : PosShare TreeShare) (X : s.Idx → Val e) :
    (owns c (m.squeeze s' h) q (fun j => X (Shape.reshapeEquiv h.numel_eq j)) : sProp 𝕄)
      = owns c m q X := by
  have hs : (m.squeeze s' h).view.set = m.view.set := View.set_reshape _ _
  have h₁ : (owns c (m.squeeze s' h) q (fun j => X (Shape.reshapeEquiv h.numel_eq j)) : sProp 𝕄)
      ⊢ owns c m q X := by
    unfold owns
    iintro ⟨%f, %hf, H⟩
    iexists f
    isplitr
    · ipureintro
      funext i
      have h2 := congrFun hf ((Shape.reshapeEquiv h.numel_eq).symm i)
      simp only [Equiv.apply_symm_apply] at h2
      rw [← h2]
      show m.view.read Val f i
        = m.view.read Val f (Shape.reshapeEquiv _ ((Shape.reshapeEquiv h.numel_eq).symm i))
      rw [Equiv.apply_symm_apply]
    · rw [hs]; iexact H
  have h₂ : (owns c m q X : sProp 𝕄)
      ⊢ owns c (m.squeeze s' h) q (fun j => X (Shape.reshapeEquiv h.numel_eq j)) := by
    unfold owns
    iintro ⟨%f, %hf, H⟩
    iexists f
    isplitr
    · ipureintro
      funext i
      rw [← hf]; rfl
    · rw [hs]; iexact H
  exact BI.equiv_iff.mp ⟨h₁, h₂⟩

/-- The same, from the contents of the squeezed memref. -/
theorem owns_squeeze' {sp : Space} (m : Memref sig c.2.kind sp s e) (s' : Shape)
    (h : s.Squeezes s') (q : PosShare TreeShare) (X : s'.Idx → Val e) :
    (owns c (m.squeeze s' h) q X : sProp 𝕄)
      = owns c m q (fun i => X ((Shape.reshapeEquiv h.numel_eq).symm i)) := by
  rw [← owns_squeeze c m s' h q]
  simp only [Equiv.symm_apply_apply]

/-- A load within a slot of a memref (a slice, squeezed), the slot owned at `X`. -/
theorem wp_ld_slot {cs : CoreSpace} {m : Memref sig c.2.kind cs s e} {r ρ : Rect s}
    {hρ : ∀ a, ρ.stride a = 1} {s' : Shape} {h : ρ.shape.Squeezes s'}
    {hl : m.view.LoadsAt r} {k : (r.shape.Idx → Val e) → Prog (TpuEff nD τ sig Val Λ c.2) α}
    {q : PosShare TreeShare} {X : s'.Idx → Val e} (g : r.shape.Idx → s'.Idx)
    (hg : ∀ j, ρ.emb (Shape.reshapeEquiv h.numel_eq (g j)) = r.emb j) :
    (owns c ((m.slice ρ hρ).squeeze s' h) q X : sProp 𝕄)
      ⊢ iprop((owns c ((m.slice ρ hρ).squeeze s' h) q X
          -∗ wp frame (wpE' defs 𝒱 c bd Γ) E (k (fun j => X (g j))) Q)
        -∗ wp frame (wpE' defs 𝒱 c bd Γ) E (.op (.load m r hl) k) Q) := by
  rw [owns_squeeze']
  have := wp_ld_slice (defs := defs) 𝒱 c bd (Γ := Γ) E (Q := Q) (m := m) (r := r) hρ (hl := hl)
    (k := k) (q := q) (X := fun i => X ((Shape.reshapeEquiv h.numel_eq).symm i))
    (fun j => Shape.reshapeEquiv h.numel_eq (g j)) hg
  simpa only [Equiv.symm_apply_apply] using this

/-- A load of a whole slot of a memref, the slot owned. -/
theorem wp_ld_all {cs : CoreSpace} {m : Memref sig c.2.kind cs s e} {ρ : Rect s}
    {hρ : ∀ a, ρ.stride a = 1} {s' : Shape} {h : ρ.shape.Squeezes s'}
    {hl : m.view.LoadsAt ρ} {k : (ρ.shape.Idx → Val e) → Prog (TpuEff nD τ sig Val Λ c.2) α}
    {q : PosShare TreeShare} {X : s'.Idx → Val e} :
    (owns c ((m.slice ρ hρ).squeeze s' h) q X : sProp 𝕄)
      ⊢ iprop((owns c ((m.slice ρ hρ).squeeze s' h) q X
          -∗ wp frame (wpE' defs 𝒱 c bd Γ) E
            (k (fun j => X ((Shape.reshapeEquiv h.numel_eq).symm j))) Q)
        -∗ wp frame (wpE' defs 𝒱 c bd Γ) E (.op (.load m ρ hl) k) Q) :=
  wp_ld_slot 𝒱 c bd E (fun j => (Shape.reshapeEquiv h.numel_eq).symm j)
    (fun j => congrArg _ (Equiv.apply_symm_apply _ _))

/-- A store of a whole slot of a memref, the slot owned. -/
theorem wp_st_slot {cs : CoreSpace} {m : Memref sig c.2.kind cs s e} {r : Rect s}
    {hr : ∀ a, r.stride a = 1} {s' : Shape} {h : r.shape.Squeezes s'}
    {w : r.shape.Idx → Val e} {hx : (m.access r).Stores Finset.univ}
    {hm : (Finset.univ : Finset r.shape.Idx) = Finset.univ ∨ ∀ a, r.stride a = 1}
    {k : PUnit → Prog (TpuEff nD τ sig Val Λ c.2) α} {X : s'.Idx → Val e} :
    (owns c ((m.slice r hr).squeeze s' h) fullShare X : sProp 𝕄)
      ⊢ iprop((owns c ((m.slice r hr).squeeze s' h) fullShare
            (fun j => w (Shape.reshapeEquiv h.numel_eq j))
          -∗ wp frame (wpE' defs 𝒱 c bd Γ) E (k ⟨⟩) Q)
        -∗ wp frame (wpE' defs 𝒱 c bd Γ) E (.op (.store m r w Finset.univ hx hm) k) Q) := by
  rw [owns_squeeze', owns_squeeze]
  exact wp_st_slice 𝒱 c bd E hr

end Cert.Mem
-- ==== Proof.KernelIdeal.Prog.lean ====
/- The kernel's body of one device as a program over eight heads, four query slots and three
   combine slots, and that the printed body is this program. -/
module

public import proofs.«01_k».proof.Proof.Gen.KernelIdeal.Skeleton

@[expose] public section

noncomputable section

namespace Cert.KernelIdeal.Ring

open Idealize.ShloMosaic Idealize.SL.Sem
open Cert.KernelIdeal Cert.KernelIdeal.Gen

variable {F : FTy → Type} [FloatOps F]

/-- A program of the kernel that returns nothing. -/
abbrev KProg (F : FTy → Type) [FloatOps F] := Prog (TpuEff nD τ sig (Elt F) Λ₀ .tc) PUnit

/-! ## What one head computes -/

/-- The queries of the device: the block of `x` times the weights, scaled. -/
def qVal (vx : Vec F S256x1024 .f32) (vw : Vec F S1024x1024 .f32) : FVec F S256x1024 .f32 :=
  mulf (matmul dot_S256x1024_S1024x1024_S256x1024_1_0_0_1_n_n none
      (shapeCast S256x1024 vx shapeCasts_S256x1024_S256x1024)
      (shapeCast S1024x1024 vw shapeCasts_S1024x1024_S1024x1024)
      (constant S256x1024 .f32 0x00000000#32))
    (broadcast S256x1024 (Scalar.ofBits .f32 0x3DB504F3#32))

/-- The scores of one head: keys times queries. -/
def sVal (vq : Vec F S1x256x128 .f32) (vk : Vec F S4096x128 .f32) : FVec F S4096x256 .f32 :=
  matmul dot_S4096x128_S256x128_S4096x256_1_1_0_0_n_n none
    (shapeCast S4096x128 vk shapeCasts_S4096x128_S4096x128)
    (shapeCast S256x128 vq shapeCasts_S1x256x128_S256x128)
    (constant S4096x256 .f32 0x00000000#32)

/-- The largest score of each query. -/
def mVal (vq : Vec F S1x256x128 .f32) (vk : Vec F S4096x128 .f32) : FVec F S1x256 .f32 :=
  shapeCast S1x256 (multiReduction .maximumf [0] S256 (sVal vq vk) 0xFF800000#32
    reduces_S4096x256_S256 (.inl rfl) rfl) shapeCasts_S256_S1x256

/-- The exponentials of the scores less their largest. -/
def pVal (vq : Vec F S1x256x128 .f32) (vk : Vec F S4096x128 .f32) : FVec F S4096x256 .f32 :=
  exp (subf (sVal vq vk) (broadcastTo S4096x256 (mVal vq vk) broadcasts_S1x256_S4096x256))

/-- The sum of the exponentials. -/
def lVal (vq : Vec F S1x256x128 .f32) (vk : Vec F S4096x128 .f32) : FVec F S1x256 .f32 :=
  shapeCast S1x256 (multiReduction .add [0] S256 (pVal vq vk) 0x00000000#32
    reduces_S4096x256_S256 (.inl rfl) rfl) shapeCasts_S256_S1x256

/-- The values weighted by the exponentials. -/
def accVal (vq : Vec F S1x256x128 .f32) (vk vv : Vec F S4096x128 .f32) : FVec F S128x256 .f32 :=
  shapeCast S128x256 (matmul dot_S4096x128_S4096x256_S128x256_0_0_1_1_n_n none
    (shapeCast S4096x128 vv shapeCasts_S4096x128_S4096x128) (pVal vq vk)
    (constant S128x256 .f32 0x00000000#32)) shapeCasts_S128x256_S128x256

/-- A row as the statistics buffer stores it. -/
def rowOut (v : FVec F S1x256 .f32) : FVec F S1x1x256 .f32 :=
  shapeCast S1x1x256 (shapeCast S256 v shapeCasts_S1x256_S256) shapeCasts_S256_S1x1x256

/-- A row as the device's own statistics buffer holds it. -/
def rowP (v : Vec F S1x1x256 .f32) : FVec F S1x256 .f32 :=
  shapeCast S1x256 (shapeCast S256 v shapeCasts_S1x1x256_S256) shapeCasts_S256_S1x256

/-- A row as the received statistics buffer holds it. -/
def rowIn (v : Vec F S1x1x1x256 .f32) : FVec F S1x256 .f32 :=
  shapeCast S1x256 (shapeCast S256 v shapeCasts_S1x1x1x256_S256) shapeCasts_S256_S1x256

/-- The merged largest score. -/
def mergeM (vmi : Vec F S1x1x1x256 .f32) (vmp : Vec F S1x1x256 .f32) : FVec F S1x256 .f32 :=
  maximumf (rowIn vmi) (rowP vmp)

/-- The factor of the received sums. -/
def facIn (vmi : Vec F S1x1x1x256 .f32) (vmp : Vec F S1x1x256 .f32) : FVec F S1x256 .f32 :=
  exp (subf (rowIn vmi) (mergeM vmi vmp))

/-- The factor of the device's own sums. -/
def facP (vmi : Vec F S1x1x1x256 .f32) (vmp : Vec F S1x1x256 .f32) : FVec F S1x256 .f32 :=
  exp (subf (rowP vmp) (mergeM vmi vmp))

/-- The merged sum of exponentials. -/
def mergeL (vmi vli : Vec F S1x1x1x256 .f32) (vmp vlp : Vec F S1x1x256 .f32) :
    FVec F S1x256 .f32 :=
  addf (mulf (rowIn vli) (facIn vmi vmp)) (mulf (rowP vlp) (facP vmi vmp))

/-- The merged weighted values. -/
def mergeA (vmi : Vec F S1x1x1x256 .f32) (vmp : Vec F S1x1x256 .f32)
    (vai : Vec F S1x128x256 .f32) (vap : Vec F S128x256 .f32) : FVec F S128x256 .f32 :=
  addf (mulf (shapeCast S128x256 vai shapeCasts_S1x128x256_S128x256)
      (broadcastTo S128x256 (facIn vmi vmp) broadcasts_S1x256_S128x256))
    (mulf vap (broadcastTo S128x256 (facP vmi vmp) broadcasts_S1x256_S128x256))

/-- The merged weighted values over the merged sum. -/
def mergeN (vmi vli : Vec F S1x1x1x256 .f32) (vmp vlp : Vec F S1x1x256 .f32)
    (vai : Vec F S1x128x256 .f32) (vap : Vec F S128x256 .f32) : FVec F S128x256 .f32 :=
  divf (mergeA vmi vmp vai vap)
    (broadcastTo S128x256 (mergeL vmi vli vmp vlp) broadcasts_S1x256_S128x256)

/-- The device's block of the result: the normalised heads times the output weights. -/
def outVal (va : Vec F S1024x256 .f32) (vw : Vec F S1024x1024 .f32) : FVec F S256x1024 .f32 :=
  matmul dot_S1024x256_S1024x1024_S256x1024_0_0_1_1_n_n none va
    (shapeCast S1024x1024 vw shapeCasts_S1024x1024_S1024x1024)
    (constant S256x1024 .f32 0x00000000#32)

/-! ## The rectangles -/

theorem inb_q {d h : Nat} (hd : d < 4) (hh : h < 8) :
    ∀ a, (![d, 0, 128 * h] : Fin 3 → Nat) a + S1x256x128.size a ≤ S4x256x1024.size a := by
  intro a; fin_cases a <;> simp <;> omega

theorem inb_k {h : Nat} (hh : h < 8) :
    ∀ a, (![0, 128 * h] : Fin 2 → Nat) a + S4096x128.size a ≤ S4096x1024.size a := by
  intro a; fin_cases a <;> simp <;> omega

theorem inb_a {h : Nat} (hh : h < 8) :
    ∀ a, (![128 * h, 0] : Fin 2 → Nat) a + S128x256.size a ≤ S1024x256.size a := by
  intro a; fin_cases a <;> simp <;> omega

theorem inb_m {i h : Nat} (hi : i < 2) (hh : h < 8) :
    ∀ a, (![i, h, 0] : Fin 3 → Nat) a + S1x1x256.size a ≤ S2x8x256.size a := by
  intro a; fin_cases a <;> simp <;> omega

theorem inb_rm {s i h : Nat} (hs : s < 3) (hi : i < 2) (hh : h < 8) :
    ∀ a, (![s, i, h, 0] : Fin 4 → Nat) a + S1x1x1x256.size a ≤ S3x2x8x256.size a := by
  intro a; fin_cases a <;> simp <;> omega

theorem inb_ra {s h : Nat} (hs : s < 3) (hh : h < 8) :
    ∀ a, (![s, 128 * h, 0] : Fin 3 → Nat) a + S1x128x256.size a ≤ S3x1024x256.size a := by
  intro a; fin_cases a <;> simp <;> omega

theorem inb_qs {d : Nat} (hd : d < 4) :
    ∀ a, (![d, 0, 0] : Fin 3 → Nat) a + S1x256x1024.size a ≤ S4x256x1024.size a := by
  intro a; fin_cases a <;> simp; omega

theorem inb_as {s : Nat} (hs : s < 3) :
    ∀ a, (![s, 0, 0] : Fin 3 → Nat) a + S1x1024x256.size a ≤ S3x1024x256.size a := by
  intro a; fin_cases a <;> simp; omega

theorem inb_ms {s : Nat} (hs : s < 3) :
    ∀ a, (![s, 0, 0, 0] : Fin 4 → Nat) a + S1x2x8x256.size a ≤ S3x2x8x256.size a := by
  intro a; fin_cases a <;> simp; omega

theorem inb_sem {i j : Nat} (hi : i < 6) (hj : j < 3) :
    ∀ a, (![i, j] : Fin 2 → Nat) a + S1x1.size a ≤ S6x3.size a := by
  intro a; fin_cases a <;> simp <;> omega

/-- Head `h` of query slot `d`. -/
abbrev rQ (d h : Nat) (hd : d < 4) (hh : h < 8) : Rect S4x256x1024 :=
  Rect.unit (s := S4x256x1024) ![d, 0, 128 * h] S1x256x128.size (inb_q hd hh)
/-- Head `h` of the keys, and of the values. -/
abbrev rK (h : Nat) (hh : h < 8) : Rect S4096x1024 :=
  Rect.unit (s := S4096x1024) ![0, 128 * h] S4096x128.size (inb_k hh)
/-- Head `h` of a slot of weighted values. -/
abbrev rA (h : Nat) (hh : h < 8) : Rect S1024x256 :=
  Rect.unit (s := S1024x256) ![128 * h, 0] S128x256.size (inb_a hh)
/-- Row `i` (the largest, the sum) of head `h` of a slot of statistics. -/
abbrev rM (i h : Nat) (hi : i < 2) (hh : h < 8) : Rect S2x8x256 :=
  Rect.unit (s := S2x8x256) ![i, h, 0] S1x1x256.size (inb_m hi hh)
/-- Row `i` of head `h` of slot `s` of the received statistics. -/
abbrev rRM (s i h : Nat) (hs : s < 3) (hi : i < 2) (hh : h < 8) : Rect S3x2x8x256 :=
  Rect.unit (s := S3x2x8x256) ![s, i, h, 0] S1x1x1x256.size (inb_rm hs hi hh)
/-- Head `h` of slot `s` of the received weighted values. -/
abbrev rRA (s h : Nat) (hs : s < 3) (hh : h < 8) : Rect S3x1024x256 :=
  Rect.unit (s := S3x1024x256) ![s, 128 * h, 0] S1x128x256.size (inb_ra hs hh)

/-- Slot `d` of the queries. -/
abbrev qSlot (M : Memref sig .tc .vmem S4x256x1024 .f32) (d : Nat) (hd : d < 4) :
    Memref sig .tc .vmem S256x1024 .f32 :=
  (M.slice (Rect.unit (s := S4x256x1024) ![d, 0, 0] S1x256x1024.size (inb_qs hd))
    (fun _ => rfl)).squeeze S256x1024 squeezes_S1x256x1024_S256x1024
/-- Slot `s` of three slots of weighted values. -/
abbrev aSlot (M : Memref sig .tc .vmem S3x1024x256 .f32) (s : Nat) (hs : s < 3) :
    Memref sig .tc .vmem S1024x256 .f32 :=
  (M.slice (Rect.unit (s := S3x1024x256) ![s, 0, 0] S1x1024x256.size (inb_as hs))
    (fun _ => rfl)).squeeze S1024x256 squeezes_S1x1024x256_S1024x256
/-- Slot `s` of three slots of statistics. -/
abbrev mSlot (M : Memref sig .tc .vmem S3x2x8x256 .f32) (s : Nat) (hs : s < 3) :
    Memref sig .tc .vmem S2x8x256 .f32 :=
  (M.slice (Rect.unit (s := S3x2x8x256) ![s, 0, 0, 0] S1x2x8x256.size (inb_ms hs))
    (fun _ => rfl)).squeeze S2x8x256 squeezes_S1x2x8x256_S2x8x256
/-- Copy semaphore `(i, j)`. -/
abbrev dsem (A : DmaSems sig S6x3) (i j : Nat) (hi : i < 6) (hj : j < 3) : DmaSem sig :=
  ((A.slice (Rect.unit (s := S6x3) ![i, j] S1x1.size (inb_sem hi hj))).squeeze S_
    squeezes_S1x1_S_).sem

/-! ## The pieces -/

section Pieces

variable (arg0 : Memref sig .tc .vmem S256x1024 .f32) (arg1 : Memref sig .tc .vmem S1024x1024 .f32)
  (arg2 : Memref sig .tc .vmem S1024x1024 .f32) (arg3 : Memref sig .tc .vmem S4096x1024 .f32)
  (arg4 : Memref sig .tc .vmem S4096x1024 .f32) (arg5 : Memref sig .tc .vmem S256x1024 .f32)
  (arg6 : Memref sig .tc .vmem S4x256x1024 .f32) (arg7 : Memref sig .tc .vmem S1024x256 .f32)
  (arg8 : Memref sig .tc .vmem S2x8x256 .f32) (arg9 : Memref sig .tc .vmem S3x1024x256 .f32)
  (arg10 : Memref sig .tc .vmem S3x2x8x256 .f32) (arg11 : Memref sig .tc .vmem S3x1024x256 .f32)
  (arg12 : Memref sig .tc .vmem S3x2x8x256 .f32) (arg13 : DmaSems sig S6x3)

/-- A load of a rectangle. -/
abbrev ld {s : Shape} (M : Memref sig .tc .vmem s .f32) (r : Rect s) (h : 0 < r.shape.numel)
    (K : Vec F r.shape .f32 → KProg F) : KProg F :=
  .op (.load M r.toLoadRect (View.loadsAt_vmem h)) K

/-- A store of a rectangle. -/
abbrev st {s : Shape} (M : Memref sig .tc .vmem s .f32) (r : Rect s) (h : 0 < r.shape.numel)
    (w : Vec F r.shape .f32) (K : KProg F) : KProg F :=
  .op (.store M r w Finset.univ (View.stores_vmem_bits_univ h rfl) (.inl rfl)) (fun _ => K)

/-- The partial sums of head `h`, of query slot `d`, into the slots `accM` and `mlM`. -/
def headPart (accM : Memref sig .tc .vmem S1024x256 .f32) (mlM : Memref sig .tc .vmem S2x8x256 .f32)
    (d : Nat) (hd : d < 4) (h : Nat) (hh : h < 8) (K : KProg F) : KProg F :=
  ld arg6 (rQ d h hd hh) h_S1x256x128 fun vq =>
  ld arg3 (rK h hh) h_S4096x128 fun vk =>
  ld arg4 (rK h hh) h_S4096x128 fun vv =>
  ld accM (rA h hh) h_S128x256 fun _ =>
  st accM (rA h hh) h_S128x256 (accVal vq vk vv) <|
  ld mlM (rM 0 h (by decide) hh) h_S1x1x256 fun _ =>
  st mlM (rM 0 h (by decide) hh) h_S1x1x256 (rowOut (mVal vq vk)) <|
  ld mlM (rM 1 h (by decide) hh) h_S1x1x256 fun _ =>
  st mlM (rM 1 h (by decide) hh) h_S1x1x256 (rowOut (lVal vq vk)) K

/-- The merge of head `h` of received slot `s` with the device's own sums, into `accM` and
    `mlM`. -/
def headMerge (accM : Memref sig .tc .vmem S1024x256 .f32)
    (mlM : Memref sig .tc .vmem S2x8x256 .f32)
    (s : Nat) (hs : s < 3) (h : Nat) (hh : h < 8) (K : KProg F) : KProg F :=
  ld arg12 (rRM s 0 h hs (by decide) hh) h_S1x1x1x256 fun vmi =>
  ld arg12 (rRM s 1 h hs (by decide) hh) h_S1x1x1x256 fun vli =>
  ld arg8 (rM 0 h (by decide) hh) h_S1x1x256 fun vmp =>
  ld arg8 (rM 1 h (by decide) hh) h_S1x1x256 fun vlp =>
  ld arg11 (rRA s h hs hh) h_S1x128x256 fun vai =>
  ld arg7 (rA h hh) h_S128x256 fun vap =>
  ld accM (rA h hh) h_S128x256 fun _ =>
  st accM (rA h hh) h_S128x256
    (shapeCast S128x256 (mergeA vmi vmp vai vap) shapeCasts_S128x256_S128x256) <|
  ld mlM (rM 0 h (by decide) hh) h_S1x1x256 fun _ =>
  st mlM (rM 0 h (by decide) hh) h_S1x1x256 (rowOut (mergeM vmi vmp)) <|
  ld mlM (rM 1 h (by decide) hh) h_S1x1x256 fun _ =>
  st mlM (rM 1 h (by decide) hh) h_S1x1x256 (rowOut (mergeL vmi vli vmp vlp)) K

/-- The last merge of head `h`, which divides by the sum of the exponentials. -/
def headMergeN (s : Nat) (hs : s < 3) (h : Nat) (hh : h < 8) (K : KProg F) : KProg F :=
  ld arg12 (rRM s 0 h hs (by decide) hh) h_S1x1x1x256 fun vmi =>
  ld arg12 (rRM s 1 h hs (by decide) hh) h_S1x1x1x256 fun vli =>
  ld arg8 (rM 0 h (by decide) hh) h_S1x1x256 fun vmp =>
  ld arg8 (rM 1 h (by decide) hh) h_S1x1x256 fun vlp =>
  ld arg11 (rRA s h hs hh) h_S1x128x256 fun vai =>
  ld arg7 (rA h hh) h_S128x256 fun vap =>
  ld arg7 (rA h hh) h_S128x256 fun _ =>
  st arg7 (rA h hh) h_S128x256
    (shapeCast S128x256 (mergeN vmi vli vmp vlp vai vap) shapeCasts_S128x256_S128x256) K

/-- Eight heads, one after another. -/
abbrev heads (f : (h : Nat) → h < 8 → KProg F → KProg F) (K : KProg F) : KProg F :=
  f 0 (by decide) <| f 1 (by decide) <| f 2 (by decide) <| f 3 (by decide) <|
  f 4 (by decide) <| f 5 (by decide) <| f 6 (by decide) <| f 7 (by decide) K

/-- A copy to another device. -/
abbrev send {s : Shape} (src dst : Memref sig .tc .vmem s .f32) (hs : src.view.WordExact)
    (hd : dst.view.WordExact) (n : Dev nD) (ss rs : DmaSem sig) (K : KProg F) : KProg F :=
  .op (.enqueueDma src (.remote (Dev.tc n) dst (.dma ss)) (.dma rs) hs hd
    ⟨⟨rfl, Or.inl rfl⟩, trivial⟩) (fun _ => K)

/-- A wait for a copy. -/
abbrev waitCopy {s : Shape} (src dst : Memref sig .tc .vmem s .f32) (hs : src.view.WordExact)
    (hd : dst.view.WordExact) (sm : DmaSem sig) (K : KProg F) : KProg F :=
  .op (.waitDma2 sm src dst hs hd) (fun _ => K)

/-- The device sends query slot `d` to the right, into slot `d + 1`. -/
def sendQ (n : Dev nD) (d : Nat) (hd : d < 3) (K : KProg F) : KProg F :=
  send (qSlot arg6 d (by omega)) (qSlot arg6 (d + 1) (by omega))
    ((View.wordExact_bits rfl).reshape _ _) ((View.wordExact_bits rfl).reshape _ _) n
    (dsem arg13 0 d (by decide) hd) (dsem arg13 1 d (by decide) hd) K

/-- The device waits for query slot `d + 1`. -/
def recvQ (d : Nat) (hd : d < 3) (K : KProg F) : KProg F :=
  waitCopy (qSlot arg6 d (by omega)) (qSlot arg6 (d + 1) (by omega))
    ((View.wordExact_bits rfl).reshape _ _) ((View.wordExact_bits rfl).reshape _ _)
    (dsem arg13 1 d (by decide) hd) K

/-- The device sends slot `s` of the combined weighted values and statistics to the right. -/
def sendC (n n' : Dev nD) (s : Nat) (hs : s < 3) (K : KProg F) : KProg F :=
  send (aSlot arg9 s hs) (aSlot arg11 s hs)
    ((View.wordExact_bits rfl).reshape _ _) ((View.wordExact_bits rfl).reshape _ _) n
    (dsem arg13 2 s (by decide) hs) (dsem arg13 3 s (by decide) hs) <|
  send (mSlot arg10 s hs) (mSlot arg12 s hs)
    ((View.wordExact_bits rfl).reshape _ _) ((View.wordExact_bits rfl).reshape _ _) n'
    (dsem arg13 4 s (by decide) hs) (dsem arg13 5 s (by decide) hs) K

/-- The device waits for slot `s` of the combined weighted values and statistics. -/
def recvC (s : Nat) (hs : s < 3) (K : KProg F) : KProg F :=
  waitCopy (aSlot arg9 s hs) (aSlot arg11 s hs)
    ((View.wordExact_bits rfl).reshape _ _) ((View.wordExact_bits rfl).reshape _ _)
    (dsem arg13 3 s (by decide) hs) <|
  waitCopy (mSlot arg10 s hs) (mSlot arg12 s hs)
    ((View.wordExact_bits rfl).reshape _ _) ((View.wordExact_bits rfl).reshape _ _)
    (dsem arg13 5 s (by decide) hs) K

/-- The device waits until its copies numbered `d` have left. -/
def drain (d : Nat) (hd : d < 3) (K : KProg F) : KProg F :=
  waitCopy (qSlot arg6 (d + 1) (by omega)) (qSlot arg6 d (by omega))
    ((View.wordExact_bits rfl).reshape _ _) ((View.wordExact_bits rfl).reshape _ _)
    (dsem arg13 0 d (by decide) hd) <|
  waitCopy (aSlot arg11 d hd) (aSlot arg9 d hd)
    ((View.wordExact_bits rfl).reshape _ _) ((View.wordExact_bits rfl).reshape _ _)
    (dsem arg13 2 d (by decide) hd) <|
  waitCopy (mSlot arg12 d hd) (mSlot arg10 d hd)
    ((View.wordExact_bits rfl).reshape _ _) ((View.wordExact_bits rfl).reshape _ _)
    (dsem arg13 4 d (by decide) hd) K

/-- The device computes its queries into slot 0. -/
def project (K : KProg F) : KProg F :=
  ld arg0 (Rect.unit (s := S256x1024) ![0, 0] S256x1024.size inb_S256x1024_S256x1024_0_0)
    h_S256x1024 fun vx =>
  ld arg1 (Rect.unit (s := S1024x1024) ![0, 0] S1024x1024.size inb_S1024x1024_S1024x1024_0_0)
    h_S1024x1024 fun vw =>
  ld arg6 (Rect.unit (s := S4x256x1024) ![0, 0, 0] S1x256x1024.size (inb_qs (by decide)))
    h_S1x256x1024 fun _ =>
  st arg6 (Rect.unit (s := S4x256x1024) ![0, 0, 0] S1x256x1024.size (inb_qs (by decide)))
    h_S1x256x1024
    (shapeCast S1x256x1024 (qVal vx vw) shapeCasts_S256x1024_S1x256x1024) K

/-- The device projects its normalised heads into its block of the result. -/
def output (K : KProg F) : KProg F :=
  ld arg7 (Rect.unit (s := S1024x256) ![0, 0] S1024x256.size inb_S1024x256_S1024x256_0_0)
    h_S1024x256 fun va =>
  ld arg2 (Rect.unit (s := S1024x1024) ![0, 0] S1024x1024.size inb_S1024x1024_S1024x1024_0_0)
    h_S1024x1024 fun vw =>
  ld arg5 (Rect.unit (s := S256x1024) ![0, 0] S256x1024.size inb_S256x1024_S256x1024_0_0)
    h_S256x1024 fun _ =>
  st arg5 (Rect.unit (s := S256x1024) ![0, 0] S256x1024.size inb_S256x1024_S256x1024_0_0)
    h_S256x1024 (outVal va vw) K

/-- The barrier semaphore. -/
abbrev barSem : Sem sig := (SemArray.scalar (sig.barrier 0 rfl) : Sems sig S_).sem

/-- The device meets its two neighbours. -/
def meet (l r : Dev nD) (K : KProg F) : KProg F :=
  .op (.semSignal (Dev.tc l) barSem (1#32 : BitVec 32).toInt) fun _ =>
  .op (.semSignal (Dev.tc r) barSem (1#32 : BitVec 32).toInt) fun _ =>
  .op (.semWait barSem (2#32 : BitVec 32).toInt) fun _ => K

/-- The partial sums of slot `d` into the device's own buffers. -/
abbrev partP (d : Nat) (hd : d < 4) (K : KProg F) : KProg F :=
  heads (headPart arg3 arg4 arg6 arg7 arg8 d hd) K

/-- The body of one device. -/
def body : KProg F :=
  .op .deviceId fun d0 =>
  meet ⟨k0_dev1 d0, k0_dev1_lt d0⟩ ⟨k0_dev2 d0, k0_dev2_lt d0⟩ <|
  project arg0 arg1 arg6 <|
  sendQ arg6 arg13 ⟨k0_dev3 d0, k0_dev3_lt d0⟩ 0 (by decide) <|
  recvQ arg6 arg13 0 (by decide) <|
  sendQ arg6 arg13 ⟨k0_dev4 d0, k0_dev4_lt d0⟩ 1 (by decide) <|
  heads (headPart arg3 arg4 arg6 (aSlot arg9 0 (by decide)) (mSlot arg10 0 (by decide)) 1
    (by decide)) <|
  sendC arg9 arg10 arg11 arg12 arg13 ⟨k0_dev5 d0, k0_dev5_lt d0⟩ ⟨k0_dev6 d0, k0_dev6_lt d0⟩ 0
    (by decide) <|
  recvQ arg6 arg13 1 (by decide) <|
  sendQ arg6 arg13 ⟨k0_dev7 d0, k0_dev7_lt d0⟩ 2 (by decide) <|
  partP arg3 arg4 arg6 arg7 arg8 2 (by decide) <|
  recvC arg9 arg10 arg11 arg12 arg13 0 (by decide) <|
  heads (headMerge arg7 arg8 arg11 arg12 (aSlot arg9 1 (by decide)) (mSlot arg10 1 (by decide)) 0
    (by decide)) <|
  sendC arg9 arg10 arg11 arg12 arg13 ⟨k0_dev8 d0, k0_dev8_lt d0⟩ ⟨k0_dev9 d0, k0_dev9_lt d0⟩ 1
    (by decide) <|
  recvQ arg6 arg13 2 (by decide) <|
  partP arg3 arg4 arg6 arg7 arg8 3 (by decide) <|
  recvC arg9 arg10 arg11 arg12 arg13 1 (by decide) <|
  heads (headMerge arg7 arg8 arg11 arg12 (aSlot arg9 2 (by decide)) (mSlot arg10 2 (by decide)) 1
    (by decide)) <|
  sendC arg9 arg10 arg11 arg12 arg13 ⟨k0_dev10 d0, k0_dev10_lt d0⟩ ⟨k0_dev11 d0, k0_dev11_lt d0⟩ 2
    (by decide) <|
  partP arg3 arg4 arg6 arg7 arg8 0 (by decide) <|
  recvC arg9 arg10 arg11 arg12 arg13 2 (by decide) <|
  heads (headMergeN arg7 arg8 arg11 arg12 2 (by decide)) <|
  output arg2 arg5 arg7 <|
  drain arg6 arg9 arg10 arg11 arg12 arg13 0 (by decide) <|
  drain arg6 arg9 arg10 arg11 arg12 arg13 1 (by decide) <|
  drain arg6 arg9 arg10 arg11 arg12 arg13 2 (by decide) <|
  .ret ⟨⟩

end Pieces

set_option maxRecDepth 65536 in
set_option maxHeartbeats 4000000 in
/-- The printed body is this program. -/
theorem cc0_body_eq
    (arg0 : Memref sig .tc .vmem S256x1024 .f32) (harg0 : arg0.IsWhole)
    (arg1 : Memref sig .tc .vmem S1024x1024 .f32) (harg1 : arg1.IsWhole)
    (arg2 : Memref sig .tc .vmem S1024x1024 .f32) (harg2 : arg2.IsWhole)
    (arg3 : Memref sig .tc .vmem S4096x1024 .f32) (harg3 : arg3.IsWhole)
    (arg4 : Memref sig .tc .vmem S4096x1024 .f32) (harg4 : arg4.IsWhole)
    (arg5 : Memref sig .tc .vmem S256x1024 .f32) (harg5 : arg5.IsWhole)
    (arg6 : Memref sig .tc .vmem S4x256x1024 .f32) (harg6 : arg6.IsWhole)
    (arg7 : Memref sig .tc .vmem S1024x256 .f32) (harg7 : arg7.IsWhole)
    (arg8 : Memref sig .tc .vmem S2x8x256 .f32) (harg8 : arg8.IsWhole)
    (arg9 : Memref sig .tc .vmem S3x1024x256 .f32) (harg9 : arg9.IsWhole)
    (arg10 : Memref sig .tc .vmem S3x2x8x256 .f32) (harg10 : arg10.IsWhole)
    (arg11 : Memref sig .tc .vmem S3x1024x256 .f32) (harg11 : arg11.IsWhole)
    (arg12 : Memref sig .tc .vmem S3x2x8x256 .f32) (harg12 : arg12.IsWhole)
    (arg13 : DmaSems sig S6x3) :
    cc0_body (F := F) arg0 harg0 arg1 harg1 arg2 harg2 arg3 harg3 arg4 harg4 arg5 harg5 arg6 harg6
        arg7 harg7 arg8 harg8 arg9 harg9 arg10 harg10 arg11 harg11 arg12 harg12 arg13
      = body arg0 arg1 arg2 arg3 arg4 arg5 arg6 arg7 arg8 arg9 arg10 arg11 arg12 arg13 := by
  rfl

end Cert.KernelIdeal.Ring
-- ==== Proof.KernelIdeal.Cont.lean ====
/- What the buffers of one device hold: the heads of a slot as the loads read them, a slot filled head
   by head, and the slots' final contents. -/
module

public import proofs.«01_k».proof.Proof.KernelIdeal.Prog
public import proofs.«01_k».proof.Proof.Mem

@[expose] public section

noncomputable section

namespace Cert.KernelIdeal.Ring

open Idealize.ShloMosaic Idealize.ShloMosaic.ValueIdx Idealize.SL.Sem
open Cert.KernelIdeal Cert.KernelIdeal.Gen

variable {F : FTy → Type} [FloatOps F]

/-! ## Heads -/

/-- Head `h` of a slot of queries. -/
def qHead (X : Vec F S256x1024 .f32) (h : Nat) (hh : h < 8) : Vec F S1x256x128 .f32 :=
  fun j => X (ix2 (j 1) ⟨128 * h + (j 2).val, by
    have : (j 2).val < 128 := (j 2).isLt
    omega⟩)

/-- Head `h` of the keys or the values. -/
def kHead (X : Vec F S4096x1024 .f32) (h : Nat) (hh : h < 8) : Vec F S4096x128 .f32 :=
  fun j => X ((rK h hh).emb j)

/-- Head `h` of a slot of weighted values. -/
def aHead (X : Vec F S1024x256 .f32) (h : Nat) (hh : h < 8) : Vec F S128x256 .f32 :=
  fun j => X ((rA h hh).emb j)

/-- Row `i` of head `h` of a slot of statistics. -/
def mHead (X : Vec F S2x8x256 .f32) (i h : Nat) (hi : i < 2) (hh : h < 8) : Vec F S1x1x256 .f32 :=
  fun j => X ((rM i h hi hh).emb j)

/-- Head `h` of a received slot of weighted values. -/
def aHeadIn (X : Vec F S1024x256 .f32) (h : Nat) (hh : h < 8) : Vec F S1x128x256 .f32 :=
  fun j => X (ix2 ⟨128 * h + (j 1).val, by
    have : (j 1).val < 128 := (j 1).isLt
    omega⟩ (j 2))

/-- Row `i` of head `h` of a received slot of statistics. -/
def mHeadIn (X : Vec F S2x8x256 .f32) (i h : Nat) (hi : i < 2) (hh : h < 8) :
    Vec F S1x1x1x256 .f32 :=
  fun j => X (ix3 ⟨i, hi⟩ ⟨h, hh⟩ (j 3))

/-- The elements a load of head `h` of query slot `d` reads are the slot's. -/
theorem emb_q (d h : Nat) (hd : d < 4) (hh : h < 8) (j : S1x256x128.Idx)
    (hn : S256x1024.numel = S1x256x1024.numel) :
    (Rect.unit (s := S4x256x1024) ![d, 0, 0] S1x256x1024.size (inb_qs hd)).emb
        (Shape.reshapeEquiv hn (ix2 (j 1) ⟨128 * h + (j 2).val, by
          have : (j 2).val < 128 := (j 2).isLt
          omega⟩))
      = (rQ d h hd hh).emb j := by
  refine (congrArg _ (reshapeEquiv_ix2_1ab hn _ _)).trans ?_
  have h0 : (j 0).val = 0 := by have : (j 0).val < 1 := (j 0).isLt; omega
  funext a
  refine Fin.ext ?_
  match a with
  | ⟨0, _⟩ => show d + 1 * 0 = d + 1 * (j 0).val; omega
  | ⟨1, _⟩ => rfl
  | ⟨2, _⟩ => show 0 + 1 * (128 * h + (j 2).val) = 128 * h + 1 * (j 2).val; omega

/-- The elements a load of head `h` of received slot `s` reads are the slot's. -/
theorem emb_ra (s h : Nat) (hs : s < 3) (hh : h < 8) (j : S1x128x256.Idx)
    (hn : S1024x256.numel = S1x1024x256.numel) :
    (Rect.unit (s := S3x1024x256) ![s, 0, 0] S1x1024x256.size (inb_as hs)).emb
        (Shape.reshapeEquiv hn (ix2 ⟨128 * h + (j 1).val, by
          have : (j 1).val < 128 := (j 1).isLt
          omega⟩ (j 2)))
      = (rRA s h hs hh).emb j := by
  refine (congrArg _ (reshapeEquiv_ix2_1ab hn _ _)).trans ?_
  have h0 : (j 0).val = 0 := by have : (j 0).val < 1 := (j 0).isLt; omega
  funext a
  refine Fin.ext ?_
  match a with
  | ⟨0, _⟩ => show s + 1 * 0 = s + 1 * (j 0).val; omega
  | ⟨1, _⟩ => show 0 + 1 * (128 * h + (j 1).val) = 128 * h + 1 * (j 1).val; omega
  | ⟨2, _⟩ => rfl

/-- The elements a load of row `i` of head `h` of received slot `s` reads are the slot's. -/
theorem emb_rm (s i h : Nat) (hs : s < 3) (hi : i < 2) (hh : h < 8) (j : S1x1x1x256.Idx)
    (hn : S2x8x256.numel = S1x2x8x256.numel) :
    (Rect.unit (s := S3x2x8x256) ![s, 0, 0, 0] S1x2x8x256.size (inb_ms hs)).emb
        (Shape.reshapeEquiv hn (ix3 ⟨i, hi⟩ ⟨h, hh⟩ (j 3)))
      = (rRM s i h hs hi hh).emb j := by
  refine (congrArg _ (reshapeEquiv_ix3_1abc hn _ _ _)).trans ?_
  have h0 : (j 0).val = 0 := by have : (j 0).val < 1 := (j 0).isLt; omega
  have h1 : (j 1).val = 0 := by have : (j 1).val < 1 := (j 1).isLt; omega
  have h2 : (j 2).val = 0 := by have : (j 2).val < 1 := (j 2).isLt; omega
  funext a
  refine Fin.ext ?_
  match a with
  | ⟨0, _⟩ => show s + 1 * 0 = s + 1 * (j 0).val; omega
  | ⟨1, _⟩ => show 0 + 1 * i = i + 1 * (j 1).val; omega
  | ⟨2, _⟩ => show 0 + 1 * h = h + 1 * (j 2).val; omega
  | ⟨3, _⟩ => rfl

/-! ## A slot filled head by head -/

/-- The slot whose head `h` is `w h`. -/
def tileA (w : (h : Nat) → h < 8 → Vec F S128x256 .f32) : Vec F S1024x256 .f32 :=
  fun i => w ((i 0).val / 128) (by have : (i 0).val < 1024 := (i 0).isLt; omega)
    (ix2 ⟨(i 0).val % 128, Nat.mod_lt _ (by decide)⟩ (i 1))

/-- The slot `X` with its first `n` heads replaced by `w`'s. -/
def mixA (w : (h : Nat) → h < 8 → Vec F S128x256 .f32) (X : Vec F S1024x256 .f32) (n : Nat) :
    Vec F S1024x256 .f32 :=
  fun i => if (i 0).val / 128 < n then tileA w i else X i

theorem mixA_zero (w : (h : Nat) → h < 8 → Vec F S128x256 .f32) (X : Vec F S1024x256 .f32) :
    mixA w X 0 = X := by
  funext i; exact if_neg (Nat.not_lt_zero _)

theorem mixA_all (w : (h : Nat) → h < 8 → Vec F S128x256 .f32) (X : Vec F S1024x256 .f32) :
    mixA w X 8 = tileA w := by
  funext i
  exact if_pos (by have : (i 0).val < 1024 := (i 0).isLt; omega)

/-- A tiled slot at a place of head `h`. -/
theorem tileA_emb (w : (h : Nat) → h < 8 → Vec F S128x256 .f32) (h : Nat) (hh : h < 8)
    (j : S128x256.Idx) : tileA w ((rA h hh).emb j) = w h hh j := by
  have hj : (j 0).val < 128 := (j 0).isLt
  have hv : (((rA h hh).emb j) 0).val = 128 * h + (j 0).val := by
    show 128 * h + 1 * (j 0).val = _; omega
  have e1 : (((rA h hh).emb j) 0).val / 128 = h := by rw [hv]; omega
  have e2 : ix2 (n0 := 128) (n1 := 256)
      ⟨(((rA h hh).emb j) 0).val % 128, Nat.mod_lt _ (by decide)⟩ (((rA h hh).emb j) 1) = j := by
    funext a
    refine Fin.ext ?_
    match a with
    | ⟨0, _⟩ => show (((rA h hh).emb j) 0).val % 128 = (j 0).val; rw [hv]; omega
    | ⟨1, _⟩ => show 0 + 1 * (j 1).val = (j 1).val; omega
  unfold tileA
  rw [e2]
  simp only [e1]

/-- Head `h` of a slot with its first `h` heads replaced is the old one. -/
theorem mixA_head (w : (h : Nat) → h < 8 → Vec F S128x256 .f32) (X : Vec F S1024x256 .f32)
    (h : Nat) (hh : h < 8) : (fun j => mixA w X h ((rA h hh).emb j)) = aHead X h hh := by
  funext j
  have hj : (j 0).val < 128 := (j 0).isLt
  refine if_neg ?_
  show ¬ (128 * h + 1 * (j 0).val) / 128 < h
  omega

/-- Storing head `h` replaces one head more. -/
theorem mixA_step (w : (h : Nat) → h < 8 → Vec F S128x256 .f32) (X : Vec F S1024x256 .f32)
    (h : Nat) (hh : h < 8) :
    (rA h hh).overlay (mixA w X h) (w h hh) = mixA w X (h + 1) := by
  funext i
  by_cases hi : i ∈ (rA h hh).set
  · obtain ⟨j, rfl⟩ := LoadRect.exists_idx_of_mem _ hi
    have hj : (j 0).val < 128 := (j 0).isLt
    show (rA h hh).overlay _ _ ((rA h hh).emb j) = mixA w X (h + 1) ((rA h hh).emb j)
    rw [Rect.overlay_emb]
    refine Eq.symm ((if_pos ?_).trans (tileA_emb w h hh j))
    show (128 * h + 1 * (j 0).val) / 128 < h + 1
    omega
  · rw [Rect.overlay_of_not_mem _ _ _ hi]
    have hne : (i 0).val / 128 ≠ h := fun e => hi (Rect.mem_set_unit.mpr fun a => by
      match a with
      | ⟨0, _⟩ =>
        show 128 * h ≤ (i 0).val ∧ (i 0).val < 128 * h + 128
        omega
      | ⟨1, _⟩ =>
        have : (i 1).val < 256 := (i 1).isLt
        show 0 ≤ (i 1).val ∧ (i 1).val < 0 + 256
        omega)
    unfold mixA
    by_cases hlt : (i 0).val / 128 < h
    · rw [if_pos hlt, if_pos (by omega)]
    · rw [if_neg hlt, if_neg (by omega)]

/-- The slot of statistics whose head `h` has the rows `wm h` and `wl h`. -/
def tileM (wm wl : (h : Nat) → h < 8 → Vec F S1x1x256 .f32) : Vec F S2x8x256 .f32 :=
  fun i => if (i 0).val = 0 then
      wm (i 1).val (i 1).isLt (ix3 (⟨0, Nat.one_pos⟩ : Fin 1) (⟨0, Nat.one_pos⟩ : Fin 1) (i 2))
    else wl (i 1).val (i 1).isLt (ix3 (⟨0, Nat.one_pos⟩ : Fin 1) (⟨0, Nat.one_pos⟩ : Fin 1) (i 2))

/-- The slot `X` with the rows of its first `n` heads replaced. -/
def mixM (wm wl : (h : Nat) → h < 8 → Vec F S1x1x256 .f32) (X : Vec F S2x8x256 .f32) (n : Nat) :
    Vec F S2x8x256 .f32 :=
  fun i => if (i 1).val < n then tileM wm wl i else X i

theorem mixM_zero (wm wl : (h : Nat) → h < 8 → Vec F S1x1x256 .f32) (X : Vec F S2x8x256 .f32) :
    mixM wm wl X 0 = X := by
  funext i; exact if_neg (Nat.not_lt_zero _)

theorem mixM_all (wm wl : (h : Nat) → h < 8 → Vec F S1x1x256 .f32) (X : Vec F S2x8x256 .f32) :
    mixM wm wl X 8 = tileM wm wl := by
  funext i; exact if_pos (i 1).isLt

theorem idx_row (j : S1x1x256.Idx) :
    ix3 (⟨0, Nat.one_pos⟩ : Fin 1) (⟨0, Nat.one_pos⟩ : Fin 1) (j 2) = j := by
  have h0 : (j 0).val = 0 := by have : (j 0).val < 1 := (j 0).isLt; omega
  have h1 : (j 1).val = 0 := by have : (j 1).val < 1 := (j 1).isLt; omega
  funext a
  refine Fin.ext ?_
  match a with
  | ⟨0, _⟩ => exact h0.symm
  | ⟨1, _⟩ => exact h1.symm
  | ⟨2, _⟩ => rfl

theorem emb_m0 (i h : Nat) (hi : i < 2) (hh : h < 8) (j : S1x1x256.Idx) :
    (((rM i h hi hh).emb j) 0).val = i := by
  have h0 : (j 0).val < 1 := (j 0).isLt
  show i + 1 * (j 0).val = i
  omega

theorem emb_m1 (i h : Nat) (hi : i < 2) (hh : h < 8) (j : S1x1x256.Idx) :
    (((rM i h hi hh).emb j) 1).val = h := by
  have h0 : (j 1).val < 1 := (j 1).isLt
  show h + 1 * (j 1).val = h
  omega

theorem emb_m2 (i h : Nat) (hi : i < 2) (hh : h < 8) (j : S1x1x256.Idx) :
    ((rM i h hi hh).emb j) 2 = j 2 :=
  Fin.ext (by show 0 + 1 * (j 2).val = (j 2).val; omega)

/-- A tiled slot at a place of the first row of head `h`. -/
theorem tileM_emb0 (wm wl : (h : Nat) → h < 8 → Vec F S1x1x256 .f32) (h : Nat) (hh : h < 8)
    (j : S1x1x256.Idx) : tileM wm wl ((rM 0 h (by decide) hh).emb j) = wm h hh j := by
  have e1 := emb_m1 0 h (by decide) hh j
  unfold tileM
  rw [if_pos (emb_m0 0 h (by decide) hh j)]
  simp only [e1, emb_m2]
  exact congrArg _ (idx_row j)

/-- A tiled slot at a place of the second row of head `h`. -/
theorem tileM_emb1 (wm wl : (h : Nat) → h < 8 → Vec F S1x1x256 .f32) (h : Nat) (hh : h < 8)
    (j : S1x1x256.Idx) : tileM wm wl ((rM 1 h (by decide) hh).emb j) = wl h hh j := by
  have e1 := emb_m1 1 h (by decide) hh j
  unfold tileM
  rw [if_neg (by rw [emb_m0 1 h (by decide) hh j]; decide)]
  simp only [e1, emb_m2]
  exact congrArg _ (idx_row j)

theorem mem_rM {i h : Nat} {hi : i < 2} {hh : h < 8} {x : S2x8x256.Idx} (h0 : (x 0).val = i)
    (h1 : (x 1).val = h) : x ∈ (rM i h hi hh).set :=
  Rect.mem_set_unit.mpr fun a => by
    match a with
    | ⟨0, _⟩ => show i ≤ (x 0).val ∧ (x 0).val < i + 1; omega
    | ⟨1, _⟩ => show h ≤ (x 1).val ∧ (x 1).val < h + 1; omega
    | ⟨2, _⟩ =>
      have : (x 2).val < 256 := (x 2).isLt
      show 0 ≤ (x 2).val ∧ (x 2).val < 0 + 256
      omega

/-- Storing the two rows of head `h` replaces one head more. -/
theorem mixM_step (wm wl : (h : Nat) → h < 8 → Vec F S1x1x256 .f32) (X : Vec F S2x8x256 .f32)
    (h : Nat) (hh : h < 8) :
    (rM 1 h (by decide) hh).overlay
        ((rM 0 h (by decide) hh).overlay (mixM wm wl X h) (wm h hh)) (wl h hh)
      = mixM wm wl X (h + 1) := by
  funext i
  by_cases h1 : i ∈ (rM 1 h (by decide) hh).set
  · obtain ⟨j, rfl⟩ := LoadRect.exists_idx_of_mem _ h1
    show (rM 1 h (by decide) hh).overlay _ _ ((rM 1 h (by decide) hh).emb j)
      = mixM wm wl X (h + 1) ((rM 1 h (by decide) hh).emb j)
    rw [Rect.overlay_emb]
    refine Eq.symm ((if_pos ?_).trans (tileM_emb1 wm wl h hh j))
    rw [emb_m1]; omega
  rw [Rect.overlay_of_not_mem _ _ _ h1]
  by_cases h0 : i ∈ (rM 0 h (by decide) hh).set
  · obtain ⟨j, rfl⟩ := LoadRect.exists_idx_of_mem _ h0
    show (rM 0 h (by decide) hh).overlay _ _ ((rM 0 h (by decide) hh).emb j)
      = mixM wm wl X (h + 1) ((rM 0 h (by decide) hh).emb j)
    rw [Rect.overlay_emb]
    refine Eq.symm ((if_pos ?_).trans (tileM_emb0 wm wl h hh j))
    rw [emb_m1]; omega
  rw [Rect.overlay_of_not_mem _ _ _ h0]
  have hlt : (i 0).val < 2 := (i 0).isLt
  have hne : (i 1).val ≠ h := fun e => by
    rcases (show (i 0).val = 0 ∨ (i 0).val = 1 by omega) with e0 | e0
    · exact h0 (mem_rM e0 e)
    · exact h1 (mem_rM e0 e)
  unfold mixM
  by_cases hl : (i 1).val < h
  · rw [if_pos hl, if_pos (by omega)]
  · rw [if_neg hl, if_neg (by omega)]

/-! ## The slots' contents -/

/-- A slot of weighted values and of statistics. -/
structure Slot (F : FTy → Type) [FloatOps F] where
  /-- The weighted values. -/
  acc : Vec F S1024x256 .f32
  /-- The largest scores and the sums of the exponentials. -/
  ml : Vec F S2x8x256 .f32

/-- The weighted values of head `h`, of the queries `q` against the keys `k` and values `v`. -/
def partA (q : Vec F S256x1024 .f32) (k v : Vec F S4096x1024 .f32) (h : Nat) (hh : h < 8) :
    Vec F S128x256 .f32 := accVal (qHead q h hh) (kHead k h hh) (kHead v h hh)
/-- The largest scores of head `h`. -/
def partM (q : Vec F S256x1024 .f32) (k : Vec F S4096x1024 .f32) (h : Nat) (hh : h < 8) :
    Vec F S1x1x256 .f32 := rowOut (mVal (qHead q h hh) (kHead k h hh))
/-- The sums of the exponentials of head `h`. -/
def partL (q : Vec F S256x1024 .f32) (k : Vec F S4096x1024 .f32) (h : Nat) (hh : h < 8) :
    Vec F S1x1x256 .f32 := rowOut (lVal (qHead q h hh) (kHead k h hh))

/-- The partial sums of the queries `q` against the keys `k` and values `v`. -/
def part (q : Vec F S256x1024 .f32) (k v : Vec F S4096x1024 .f32) : Slot F :=
  ⟨tileA (partA q k v), tileM (partM q k) (partL q k)⟩

/-- The merged weighted values of head `h`. -/
def combA (R P : Slot F) (h : Nat) (hh : h < 8) : Vec F S128x256 .f32 :=
  shapeCast S128x256 (mergeA (mHeadIn R.ml 0 h (by decide) hh) (mHead P.ml 0 h (by decide) hh)
    (aHeadIn R.acc h hh) (aHead P.acc h hh)) shapeCasts_S128x256_S128x256
/-- The merged largest scores of head `h`. -/
def combM (R P : Slot F) (h : Nat) (hh : h < 8) : Vec F S1x1x256 .f32 :=
  rowOut (mergeM (mHeadIn R.ml 0 h (by decide) hh) (mHead P.ml 0 h (by decide) hh))
/-- The merged sums of the exponentials of head `h`. -/
def combL (R P : Slot F) (h : Nat) (hh : h < 8) : Vec F S1x1x256 .f32 :=
  rowOut (mergeL (mHeadIn R.ml 0 h (by decide) hh) (mHeadIn R.ml 1 h (by decide) hh)
    (mHead P.ml 0 h (by decide) hh) (mHead P.ml 1 h (by decide) hh))
/-- The merged and normalised weighted values of head `h`. -/
def combN (R P : Slot F) (h : Nat) (hh : h < 8) : Vec F S128x256 .f32 :=
  shapeCast S128x256 (mergeN (mHeadIn R.ml 0 h (by decide) hh) (mHeadIn R.ml 1 h (by decide) hh)
    (mHead P.ml 0 h (by decide) hh) (mHead P.ml 1 h (by decide) hh)
    (aHeadIn R.acc h hh) (aHead P.acc h hh)) shapeCasts_S128x256_S128x256

/-- The received sums merged with the device's own. -/
def comb (R P : Slot F) : Slot F := ⟨tileA (combA R P), tileM (combM R P) (combL R P)⟩

end Cert.KernelIdeal.Ring
-- ==== Proof.KernelIdeal.Proto.lean ====
/- The protocol of the ring: who passes what to whom, on which semaphore, and in which order. -/
module

public import proofs.«01_k».proof.Proof.KernelIdeal.Cont
public import proofs.«01_k».proof.Proof.Gen.KernelIdeal
public import Idealize.ShloMosaic.Lib.Pipeline.Launch
public import Idealize.ShloMosaic.Lib.Pipeline.Kit
public import Idealize.ShloMosaic.Lib.Tactic

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The two copies of the rounds algebra: the pipeline's and the ring's -/

/-- The ring's: duties named by a truth value. -/
abbrev UB : Type := URounds (GSem nD τ sig) Bool
/-- Both. -/
abbrev UU : Type := UR sig nD τ × UB

local notation "𝕄" => MT nD τ sig Unit (Elt F) ℕ UU ℕ

/-- The pipeline's copy inside the model, -/
abbrev EP : Emb (UR sig nD τ) (MT nD τ sig Unit (Elt F) ℕ UU ℕ) := embL
/-- and the ring's. -/
abbrev ER : Emb UB (MT nD τ sig Unit (Elt F) ℕ UU ℕ) := embR

/-! ## The ring -/

set_option backward.proofsInPublic true in
/-- The right neighbour, -/
def nxt (c : Dev nD) : Dev nD := ⟨(c.val + 1) % 4, Nat.mod_lt _ (by decide)⟩
set_option backward.proofsInPublic true in
/-- and the left one. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- Going right is a bijection. -/
def ring : Dev nD ≃ Dev nD := ⟨nxt, prv, prv_nxt, nxt_prv⟩

/-! ## The semaphores -/

/-- A copy semaphore of the kernel: of the queries, the weighted values or the statistics; of the
    sender or of the receiver; of the first, second or third copy. -/
abbrev Cell : Type := Fin 3 × Bool × Fin 3

set_option backward.proofsInPublic true in
/-- Its place among the copy semaphores. -/
def dm (p : Cell) : DmaSem sig :=
  ⟨6 + 3 * (2 * p.1.val + p.2.1.toNat) + p.2.2.val, by revert p; decide⟩

/-- The place read back. -/
def dmInv (q : DmaSem sig) : Cell :=
  (⟨((q.val - 6) / 6) % 3, Nat.mod_lt _ (by decide)⟩, ((q.val - 6) / 3) % 2 == 1,
    ⟨(q.val - 6) % 3, Nat.mod_lt _ (by decide)⟩)

theorem dmInv_dm (p : Cell) : dmInv (dm p) = p := by revert p; decide

/-- The kernel's indexing of its semaphores names these places. -/
theorem dsem_eq (w : Fin 3) (b : Bool) (j : Fin 3) (hi : 2 * w.val + b.toNat < 6) :
    dsem cc0_scratch7 (2 * w.val + b.toNat) j.val hi j.isLt = dm (w, b, j) := by
  revert w b j; decide

/-- The index of all the semaphores the ring uses: the barrier or a copy's. -/
abbrev CK : Type := Option Cell
/-- The semaphore of an index, -/
abbrev csem : CK → SemLoc sig
  | none => .reg barSem
  | some p => .dma (dm p)
/-- and on a device. -/
abbrev kcell (ck : Dev nD × CK) : GSem nD τ sig := ((ck.1 : Thread nD τ), csem ck.2)

/-- The copies' semaphores. -/
abbrev osem : Cell → SemLoc sig := fun p => .dma (dm p)

/-! ## Contents -/

/-- The arguments, by device. -/
structure Blocks (F : FTy → Type) [FloatOps F] where
  /-- The rows of the input, -/
  x : Dev nD → Vec F S256x1024 .f32
  /-- the query weights, -/
  wq : Dev nD → Vec F S1024x1024 .f32
  /-- the output weights, -/
  wo : Dev nD → Vec F S1024x1024 .f32
  /-- the keys, -/
  k : Dev nD → Vec F S4096x1024 .f32
  /-- the values. -/
  v : Dev nD → Vec F S4096x1024 .f32

variable (B : Blocks F)

/-- Query slot `d` of a device: the queries of the device `d` places to the left. -/
def Qs : Nat → Dev nD → Vec F S256x1024 .f32
  | 0, c => qVal (B.x c) (B.wq c)
  | d + 1, c => Qs d (prv c)

/-- The partial sums of query slot `d`. -/
def P (d : Nat) (c : Dev nD) : Slot F := part (Qs B d c) (B.k c) (B.v c)

/-- What a device sends as its copy `s` of the sums. -/
def C : Nat → Dev nD → Slot F
  | 0, c => P B 1 c
  | s + 1, c => comb (C s (prv c)) (P B (s + 2) c)

/-- The normalised heads. -/
def fin (c : Dev nD) : Vec F S1024x256 .f32 := tileA (combN (C B 2 (prv c)) (P B 0 c))

/-- The result. -/
def outC (c : Dev nD) : Vec F S256x1024 .f32 := outVal (fin B c) (B.wo c)

/-! ## The buffers -/

abbrev qM : Memref sig .tc .vmem S4x256x1024 .f32 := Memref.whole cc0_scratch0
abbrev pM : Memref sig .tc .vmem S1024x256 .f32 := Memref.whole cc0_scratch1
abbrev mM : Memref sig .tc .vmem S2x8x256 .f32 := Memref.whole cc0_scratch2
abbrev saM : Memref sig .tc .vmem S3x1024x256 .f32 := Memref.whole cc0_scratch3
abbrev smM : Memref sig .tc .vmem S3x2x8x256 .f32 := Memref.whole cc0_scratch4
abbrev raM : Memref sig .tc .vmem S3x1024x256 .f32 := Memref.whole cc0_scratch5
abbrev rmM : Memref sig .tc .vmem S3x2x8x256 .f32 := Memref.whole cc0_scratch6

/-- Query slot `j`, of those sent, -/
abbrev qSrc (j : Fin 3) : Memref sig .tc .vmem S256x1024 .f32 := qSlot qM j.val (by omega)
/-- and of those received into. -/
abbrev qDst (j : Fin 3) : Memref sig .tc .vmem S256x1024 .f32 := qSlot qM (j.val + 1) (by omega)

/-- The credit of a copy. -/
def amt (w : Fin 3) : ℕ :=
  match w with
  | 0 => (qSlot qM 0 (by decide)).view.dmaCredit
  | 1 => (aSlot saM 0 (by decide)).view.dmaCredit
  | 2 => (mSlot smM 0 (by decide)).view.dmaCredit

theorem amt_pos (w : Fin 3) : 0 < amt w := by
  fin_cases w <;> exact View.dmaCredit_pos _ (by decide)

theorem amt_q (d : Nat) (hd : d < 4) : (qSlot qM d hd).view.dmaCredit = amt 0 := rfl
theorem amt_sa (s : Nat) (hs : s < 3) : (aSlot saM s hs).view.dmaCredit = amt 1 := rfl
theorem amt_ra (s : Nat) (hs : s < 3) : (aSlot raM s hs).view.dmaCredit = amt 1 := rfl
theorem amt_sm (s : Nat) (hs : s < 3) : (mSlot smM s hs).view.dmaCredit = amt 2 := rfl
theorem amt_rm (s : Nat) (hs : s < 3) : (mSlot rmM s hs).view.dmaCredit = amt 2 := rfl

/-! ## The schedule -/

/-- A buffer at some contents. -/
def some' (c : Dev nD) {s : Shape} (M : Memref sig .tc .vmem s .f32) : sProp 𝕄 :=
  iprop(∃ X : Vec F s .f32, owns (c : Thread nD τ) M fullShare X)

omit [FloatOps F] in
instance some'_storable (c : Dev nD) {s : Shape} (M : Memref sig .tc .vmem s .f32) :
    BI.Storable (upEmb : UEmb _ 𝕄) (some' (F := F) c M) := by unfold some'; infer_instance

/-- The slots of a device that its left neighbour writes. -/
def land (c : Dev nD) : sProp 𝕄 :=
  iprop((some' c (qDst 0) ∗ some' c (qDst 1) ∗ some' c (qDst 2))
    ∗ (some' c (aSlot raM 0 (by decide)) ∗ some' c (aSlot raM 1 (by decide))
      ∗ some' c (aSlot raM 2 (by decide)))
    ∗ (some' c (mSlot rmM 0 (by decide)) ∗ some' c (mSlot rmM 1 (by decide))
      ∗ some' c (mSlot rmM 2 (by decide))))

omit [FloatOps F] in
instance land_storable (c : Dev nD) : BI.Storable (upEmb : UEmb _ 𝕄) (land (F := F) c) := by
  unfold land; infer_instance

/-- What a copy's semaphore hands its owner: the sender half of the queries sent, or the sums sent;
    the receiver the slot received into. -/
def pay (c : Dev nD) : Cell → sProp 𝕄
  | (0, false, j) => owns (c : Thread nD τ) (qSrc j) fullShare.left (Qs B j c)
  | (0, true, j) => owns (c : Thread nD τ) (qDst j) fullShare (Qs B (j + 1) c)
  | (1, false, j) => owns (c : Thread nD τ) (aSlot saM j j.isLt) fullShare (C B j c).acc
  | (1, true, j) => owns (c : Thread nD τ) (aSlot raM j j.isLt) fullShare (C B j (prv c)).acc
  | (2, false, j) => owns (c : Thread nD τ) (mSlot smM j j.isLt) fullShare (C B j c).ml
  | (2, true, j) => owns (c : Thread nD τ) (mSlot rmM j j.isLt) fullShare (C B j (prv c)).ml

instance pay_storable (c : Dev nD) (p : Cell) :
    BI.Storable (upEmb : UEmb _ 𝕄) (pay B c p) := by
  obtain ⟨w, b, j⟩ := p
  fin_cases w <;> cases b <;> (dsimp only [pay]; infer_instance)

/-- One round: the barrier has a unit from each neighbour, the right one's with the slots it is
    written in; a copy's semaphore has the copy. -/
def Rd : Rounds.Schedule (GSem nD τ sig) Bool 𝕄 where
  duties g r := if r = 0 ∧ g.1.2 = .tc then
    (match g.2 with | .reg _ => Finset.univ | .dma _ => {false}) else ∅
  unitless _ := False
  amount g _ _ := match g.2 with | .reg _ => 1 | .dma q => amt (dmInv q).1
  payload g _ d := match g.2 with
    | .reg _ => if d then land (nxt g.1.1) else iprop(emp)
    | .dma q => pay B g.1.1 (dmInv q)
  amount_pos g _ _ _ := by
    cases g.2
    · exact Nat.one_pos
    · exact amt_pos _

instance Rd_storable (g : GSem nD τ sig) (r : ℕ) (d : Bool) :
    BI.Storable (upEmb : UEmb _ 𝕄) ((Rd B).payload g r d) := by
  obtain ⟨t, sm⟩ := g
  cases sm
  · dsimp only [Rd]; split <;> infer_instance
  · dsimp only [Rd]; infer_instance

section Facts

variable (c : Dev nD) (p : Cell)

/-- The barrier of a device, -/
abbrev bar (c : Dev nD) : GSem nD τ sig := kcell (c, none)
/-- and a copy's semaphore. -/
abbrev cel (c : Dev nD) (p : Cell) : GSem nD τ sig := kcell (c, some p)

theorem duties_bar : (Rd B).duties (bar c) 0 = Finset.univ := by
  dsimp only [Rd]; exact if_pos ⟨rfl, rfl⟩
theorem duties_cel : (Rd B).duties (cel c p) 0 = {false} := by
  dsimp only [Rd]; exact if_pos ⟨rfl, rfl⟩
theorem duties_later (g : GSem nD τ sig) : ∀ r, 1 ≤ r → (Rd B).duties g r = ∅ :=
  fun r hr => by dsimp only [Rd]; exact if_neg fun h => by omega

theorem amount_bar (d : Bool) : (Rd B).amount (bar c) 0 d = 1 := rfl
theorem amount_cel (d : Bool) : (Rd B).amount (cel c p) 0 d = amt p.1 := by
  show amt (dmInv (dm p)).1 = _
  rw [dmInv_dm]

theorem expect_bar : (Rd B).expect (bar c) 0 = 2 := by
  unfold Schedule.expect Schedule.amountOf
  rw [duties_bar]
  rfl
theorem expect_cel : (Rd B).expect (cel c p) 0 = amt p.1 := by
  unfold Schedule.expect Schedule.amountOf
  rw [duties_cel, Finset.sum_singleton, amount_cel]

theorem payload_bar_true : (Rd B).payload (bar c) 0 true = land (nxt c) := by
  dsimp only [Rd]; exact if_pos rfl
theorem payload_bar_false : (Rd B).payload (bar c) 0 false = iprop(emp) := by
  dsimp only [Rd]; exact if_neg Bool.false_ne_true
theorem payload_cel (d : Bool) : (Rd B).payload (cel c p) 0 d = pay B c p := by
  show pay B c (dmInv (dm p)) = _
  rw [dmInv_dm]

/-- All the barrier hands out. -/
theorem rest_bar : bigSep ((Rd B).duties (bar c) 0 \ ∅) (fun d => (Rd B).payload (bar c) 0 d)
    = iprop(emp ∗ land (nxt c)) := by
  rw [Finset.sdiff_empty, duties_bar,
    bigSep_univ_eq_bigSepL [false, true] (by decide) (by decide), bigSepL_cons_cons,
    bigSepL_singleton, payload_bar_false, payload_bar_true]
  rfl
/-- All a copy's semaphore hands out. -/
theorem rest_cel : bigSep ((Rd B).duties (cel c p) 0 \ ∅) (fun d => (Rd B).payload (cel c p) 0 d)
    = pay B c p := by
  rw [Finset.sdiff_empty, duties_cel, bigSep_singleton, payload_cel]

end Facts

/-! ## What a device owes, and the levels -/

/-- The credits of the copies in the list, on the right neighbour. -/
def owed (c : Dev nD) : List Cell → CellTallies nD τ sig Unit
  | [] => 0
  | p :: l => owed c l + tallyAt (cel (nxt c) p) () (amt p.1)

/-- The copies in the order they are sent. -/
def sends : List Cell := [(0, true, 0), (0, true, 1), (1, true, 0), (2, true, 0), (0, true, 2),
  (1, true, 1), (2, true, 1), (1, true, 2), (2, true, 2)]

/-- What a device owes at launch. -/
def O₀ (c : Dev nD) : CellTallies nD τ sig Unit :=
  (owed c sends + tallyAt (bar (nxt c)) () 1) + tallyAt (bar (prv c)) () 1

/-- The level of a copy: by when it is waited for. -/
def lvl (p : Cell) : ℕ :=
  if p.2.1 = false then 0 else if p.1 = 0 then ![2, 3, 5] p.2.2 else ![4, 6, 7] p.2.2

/-- One credit name on every semaphore of a TensorCore. -/
def L (g : GSem nD τ sig) : Finset Unit := if g.1.2 = .tc then {()} else ∅
/-- The levels: the pipeline's semaphores at 0, the barrier at 1, the copies above. -/
def lv (g : GSem nD τ sig) (_ : Unit) : ℕ :=
  match g.2 with
  | .reg _ => 1
  | .dma q => if q.val < 6 then 0 else lvl (dmInv q)

theorem L_of_ne (g : GSem nD τ sig) (h : g.1.2 ≠ .tc) : L g = ∅ := if_neg h
theorem L_tc (c : Dev nD) (sm : SemLoc sig) : L ((c : Thread nD τ), sm) = {()} := if_pos rfl

theorem lv_cel (c : Dev nD) (p : Cell) : lv (cel c p) () = lvl p := by
  show (if (dm p).val < 6 then 0 else lvl (dmInv (dm p))) = _
  rw [dmInv_dm, if_neg (by simp only [dm]; omega)]

theorem owed_pos {c : Dev nD} {l : List Cell} {g : GSem nD τ sig} {u : Unit}
    (h : 0 < owed c l g u) : ∃ p ∈ l, g = cel (nxt c) p := by
  induction l with
  | nil => exact absurd h (Nat.lt_irrefl 0)
  | cons p l ih =>
    unfold owed at h
    rw [Pi.add_apply, Finsupp.add_apply, tallyAt_apply] at h
    by_cases hp : g = cel (nxt c) p ∧ u = ()
    · exact ⟨p, List.mem_cons_self, hp.1⟩
    · rw [if_neg hp, Nat.add_zero] at h
      obtain ⟨p', h', e⟩ := ih h
      exact ⟨p', List.mem_cons_of_mem _ h', e⟩

theorem O₀_pos {c : Dev nD} {g : GSem nD τ sig} {u : Unit} (h : 0 < O₀ c g u) :
    (∃ p ∈ sends, g = cel (nxt c) p) ∨ g = bar (nxt c) ∨ g = bar (prv c) := by
  unfold O₀ at h
  rw [Pi.add_apply, Finsupp.add_apply, Pi.add_apply, Finsupp.add_apply, tallyAt_apply,
    tallyAt_apply] at h
  by_contra hn
  rw [not_or, not_or] at hn
  rw [if_neg (fun h' => hn.2.1 h'.1), if_neg (fun h' => hn.2.2 h'.1), Nat.add_zero] at h
  exact hn.1 (owed_pos h)

omit [FloatOps F] in
/-- A wait below all that is owed. -/
theorem mayWait (c : Dev nD) (sm : SemLoc sig) (l : List Cell)
    (h : ∀ p ∈ l, lv ((c : Thread nD τ), sm) () < lvl p) :
    (levAts L lv : sProp 𝕄) ⊢ MayWait (c : Thread nD τ) sm () (owed c l) :=
  MayOwe.of_cut (L := L) (lev := lv) (lv ((c : Thread nD τ), sm) ())
    (fun p hp => by rw [Finset.mem_singleton.mp hp, L_tc]; exact Finset.mem_singleton_self _)
    (fun g u hg => by
      obtain ⟨p, -, rfl⟩ := owed_pos hg
      exact Finset.mem_singleton_self _)
    (fun p hp => by rw [Finset.mem_singleton.mp hp])
    (fun g u hg => by
      obtain ⟨p, hp, rfl⟩ := owed_pos hg
      rw [lv_cel]
      exact h p hp)

omit [FloatOps F] in
/-- The pipeline's waits are below all a device owes. -/
theorem mayWait_stage (c : Dev nD) (q : DmaSem sig) (hq : q.val < 6)
    (O : CellTallies nD τ sig Unit) (hO : O = O₀ c ∨ O = 0) :
    (levAts L lv : sProp 𝕄) ⊢ MayWait (c : Thread nD τ) (.dma q) () O := by
  rcases hO with rfl | rfl
  · have hs : ∀ p ∈ sends, 0 < lvl p := by decide
    refine MayOwe.of_cut (L := L) (lev := lv) 0
      (fun p hp => by rw [Finset.mem_singleton.mp hp, L_tc]; exact Finset.mem_singleton_self _)
      (fun g u hg => by
        rcases O₀_pos hg with ⟨p, -, rfl⟩ | rfl | rfl <;> exact Finset.mem_singleton_self _)
      (fun p hp => by
        rw [Finset.mem_singleton.mp hp]
        exact le_of_eq (if_pos hq))
      (fun g u hg => by
        rcases O₀_pos hg with ⟨p, hp, rfl⟩ | rfl | rfl
        · rw [lv_cel]; exact hs p hp
        · exact Nat.one_pos
        · exact Nat.one_pos)
  · rw [MayWait_zero]; iintro -; iempintro

/-! ## The ghost state of a device -/

/-- The invariants of all semaphores, and that round 0 of each has begun. -/
def records (K : Dev nD × CK → ℕ) : sProp 𝕄 :=
  iprop(bigSep Finset.univ (fun ck => cellInv ER (Rd B) (K ck) (kcell ck))
    ∗ bigSep Finset.univ (fun ck => reached ER (kcell ck) 0))

instance records_persistent (K : Dev nD × CK → ℕ) : BI.Persistent (records B K) := by
  unfold records; infer_instance

theorem records_inv (K : Dev nD × CK → ℕ) (ck : Dev nD × CK) :
    records B K ⊢ cellInv ER (Rd B) (K ck) (kcell ck) := by
  unfold records
  iintro ⟨H, -⟩
  iapply (show (bigSep Finset.univ (fun ck => cellInv ER (Rd B) (K ck) (kcell ck)) : sProp 𝕄)
    ⊢ cellInv ER (Rd B) (K ck) (kcell ck) from bigSep_elim (Finset.mem_univ ck)) $$ H

theorem records_reached (K : Dev nD × CK → ℕ) (ck : Dev nD × CK) :
    records B K ⊢ (reached ER (kcell ck) 0 : sProp 𝕄) := by
  unfold records
  iintro ⟨-, H⟩
  iapply (show (bigSep Finset.univ (fun ck => reached ER (kcell ck) 0) : sProp 𝕄)
    ⊢ reached ER (kcell ck) 0 from bigSep_elim (Finset.mem_univ ck)) $$ H

/-- A copy to make: the two duties it pays, and the sender's place. -/
def snd (c : Dev nD) (w j : Fin 3) : sProp 𝕄 :=
  iprop(dutyTok ER (cel c (w, false, j)) 0 false ∗ dutyTok ER (cel (nxt c) (w, true, j)) 0 false
    ∗ atPos ER (cel c (w, false, j)) 0 ∅ 0)

/-- A copy to wait for. -/
def rcv (c : Dev nD) (p : Cell) : sProp 𝕄 :=
  iprop(atPos ER (cel c p) 0 ∅ 0 ∗ cred (tallyAt (cel c p) () (amt p.1)))

/-- What a device still owes. -/
def owing (c : Dev nD) (O : CellTallies nD τ sig Unit) : sProp 𝕄 :=
  iprop(∃ W : Waits sig Unit, owes (c : Thread nD τ) O W)

/-! ## The steps -/

variable {defs : Defs nD τ sig (Elt F) Λ₀} {𝒱 : Variants} {c : Dev nD}
  {Q : PUnit → sProp (MT nD τ sig Unit (Elt F) ℕ UU ℕ)} (K : Dev nD × CK → ℕ)

/-- A copy to the right neighbour. -/
theorem wp_send_cell {s : Shape} (src dst : Memref sig .tc .vmem s .f32) (hs : src.view.WordExact)
    (hd : dst.view.WordExact) (n : Dev nD) (hn : n = nxt c) (w j : Fin 3) (ss rs : DmaSem sig)
    (hss : ss = dm (w, false, j)) (hrs : rs = dm (w, true, j))
    (hN : dst.view.dmaCredit = amt w) (q : PosShare TreeShare) (X : Vec F s .f32)
    (hpay₁ : owns (c : Thread nD τ) src q X ⊢ pay B c (w, false, j))
    (hpay₂ : owns (nxt c : Thread nD τ) dst fullShare X ⊢ pay B (nxt c) (w, true, j))
    (l : List Cell) (k : KProg F) :
    (iprop(records B K ∗ owns (c : Thread nD τ) src q X ∗ some' (nxt c) dst
        ∗ owing c (owed c ((w, true, j) :: l)) ∗ snd c w j) : sProp 𝕄)
      ⊢ iprop((iprop(owing c (owed c l) ∗ rcv c (w, false, j))
          -∗ wp frame (wpE defs 𝒱 (c : Thread nD τ) none) Set.univ k Q)
        -∗ wp frame (wpE defs 𝒱 (c : Thread nD τ) none) Set.univ
            (send src dst hs hd n ss rs k) Q) := by
  subst hn hss hrs
  unfold some' owing snd rcv
  iintro ⟨#HR, Hsrc, ⟨%Y, Hdst⟩, ⟨%W, HO⟩, Ht₁, Ht₂, Hat⟩ HK
  ihave HI₁ := (records_inv B K (c, some (w, false, j))) $$ HR
  ihave HI₂ := (records_inv B K (nxt c, some (w, true, j))) $$ HR
  ihave Hr₁ := (records_reached B K (c, some (w, false, j))) $$ HR
  ihave Hr₂ := (records_reached B K (nxt c, some (w, true, j))) $$ HR
  ihave Hsrc := (Entails.of_eq (owns.eq_def (c : Thread nD τ) src q X)) $$ Hsrc
  ihave Hdst := (Entails.of_eq (owns.eq_def (nxt c : Thread nD τ) dst fullShare Y)) $$ Hdst
  icases Hsrc with ⟨%fs, %hfs, Hsrc⟩
  icases Hdst with ⟨%fd, %hfd, Hdst⟩
  iapply (Rounds.wp_send_pointsTo 𝒱 ER (Rd B) (c : Thread nD τ) none
    (κ₁ := K (c, some (w, false, j))) (κ₂ := K (nxt c, some (w, true, j)))
    (r₁ := 0) (r₂ := 0) (d₁ := false) (d₂ := false) (fd := fd) (fs := fs) (q := q)
    (by rw [duties_cel]; exact Finset.mem_singleton_self _)
    (by rw [duties_cel]; exact Finset.mem_singleton_self _)
    () () (amt w) (show dst.view.amount (.dma _) = _ from hN) (amount_cel B c _ false)
    (amount_cel B (nxt c) _ false) (owed c l) rfl (W := W)
    (by
      rw [payload_cel]
      subst hfs
      exact (owns_intro (c : Thread nD τ) src q fs).trans hpay₁)
    (by
      rw [payload_cel]
      have h := owns_intro (Ix := Unit) (Name := ℕ) (U := UU) (Lvl := ℕ) (nxt c : Thread nD τ) dst
        fullShare (dst.view.write (Elt F) fd (src.view.read (Elt F) fs) Finset.univ)
      rw [View.read_write_univ, hfs] at h
      rw [hfs]
      exact h.trans hpay₂)) $$ [HI₁ HI₂ Hr₁ Hr₂ Hsrc Hdst HO Ht₁ Ht₂]
  · isplitl [HI₁]; · iexact HI₁
    isplitl [HI₂]; · iexact HI₂
    isplitl [Hsrc]; · iexact Hsrc
    isplitl [Hdst]; · iexact Hdst
    isplitl [HO]; · iexact HO
    isplitl [Ht₁]; · iexact Ht₁
    isplitl [Hr₁]; · iexact Hr₁
    isplitl [Ht₂]; · iexact Ht₂
    iexact Hr₂
  iintro ⟨Hc, HO⟩
  iapply HK
  isplitl [HO]; · iexists W; iexact HO
  isplitl [Hat]; · iexact Hat
  iexact Hc

/-- A wait for a copy, and its semaphore done with. -/
theorem wp_wait_cell {s : Shape} (src dst : Memref sig .tc .vmem s .f32) (hs : src.view.WordExact)
    (hd : dst.view.WordExact) (p : Cell) (sm : DmaSem sig) (hsm : sm = dm p)
    (hN : dst.view.dmaCredit = amt p.1) (l : List Cell) (hl : ∀ p' ∈ l, lvl p < lvl p')
    (k : KProg F) :
    (iprop(records B K ∗ levAts L lv ∗ owing c (owed c l) ∗ rcv c p) : sProp 𝕄)
      ⊢ iprop((iprop(owing c (owed c l) ∗ semVal (cel c p) 0 ∗ pay B c p)
          -∗ wp frame (wpE defs 𝒱 (c : Thread nD τ) none) Set.univ k Q)
        -∗ wp frame (wpE defs 𝒱 (c : Thread nD τ) none) Set.univ (waitCopy src dst hs hd sm k) Q) := by
  subst hsm
  unfold owing rcv
  iintro ⟨#HR, #Hlev, ⟨%W, HO⟩, Hat, Hc⟩ HK
  ihave #HI := (records_inv B K (c, some p)) $$ HR
  iapply (Rounds.wp_wait_rest_token 𝒱 ER (Rd B) (c : Thread nD τ) none (κ := K (c, some p))
      (wpE_waitDma2_eq 𝒱 (c : Thread nD τ) none Set.univ) (Set.mem_univ _) () (O := owed c l) (W := W)
      (R := 0) (m := 0) (T := ∅) (by rw [Nat.zero_add, expect_cel, hN])) $$ [Hc HO Hat]
  · isplitr; · iexact HI
    isplitl [Hc]; · rw [hN]; iexact Hc
    isplitl [HO]; · iexact HO
    isplitr
    · iapply (mayWait c (.dma (dm p)) l (fun p' hp => by
        rw [show lv ((c : Thread nD τ), .dma (dm p)) () = lvl p from lv_cel c p]
        exact hl p' hp))
      iexact Hlev
    iexact Hat
  iintro ⟨HO, Hat, -, Hpay⟩
  ihave Hp := (Entails.of_eq (rest_cel B c p)) $$ Hpay
  imod (Rounds.cell_close ER (Rd B) (Set.mem_univ (K (c, some p))) (fun h => h) (R := 0 + 1)
    (duties_later B (cel c p))) $$ [Hat] with Hz
  · isplitr; · iexact HI
    iexact Hat
  iapply HK
  isplitl [HO]; · iexists _; iexact HO
  isplitl [Hz]; · iexact Hz
  iexact Hp

/-- The meeting: the device hands its slots to the left and gets the right neighbour's. -/
theorem wp_meet (n n' : Dev nD) (hn : n = prv c) (hn' : n' = nxt c) (k : KProg F) :
    (iprop(records B K ∗ levAts L lv ∗ owing c (O₀ c) ∗ land c
        ∗ dutyTok ER (bar (prv c)) 0 true ∗ dutyTok ER (bar (nxt c)) 0 false
        ∗ atPos ER (bar c) 0 ∅ 0 ∗ cred (tallyAt (bar c) () 2)) : sProp 𝕄)
      ⊢ iprop((iprop(owing c (owed c sends) ∗ semVal (bar c) 0 ∗ land (nxt c))
          -∗ wp frame (wpE defs 𝒱 (c : Thread nD τ) none) Set.univ k Q)
        -∗ wp frame (wpE defs 𝒱 (c : Thread nD τ) none) Set.univ (meet n n' k) Q) := by
  subst hn hn'
  unfold owing meet O₀
  iintro ⟨#HR, #Hlev, ⟨%W, HO⟩, Hland, Ht₁, Ht₂, Hat, Hc⟩ HK
  ihave #HI := (records_inv B K (c, none)) $$ HR
  iapply (Rounds.wp_signal 𝒱 ER (Rd B) (c : Thread nD τ) none (dst := (prv c : Thread nD τ))
      (κ := K (prv c, none)) (d := true) (by rw [duties_bar]; exact Finset.mem_univ _)
      ((amount_bar B (prv c) true).trans (by decide)) ()
      (owed c sends + tallyAt (bar (nxt c)) () 1) rfl) $$ [HO Ht₁ Hland]
  · isplitr; · iapply (records_inv B K (prv c, none)); iexact HR
    isplitl [HO]; · iexact HO
    isplitl [Ht₁]; · iexact Ht₁
    isplitl [Hland]; · rw [payload_bar_true, nxt_prv]; iexact Hland
    iapply (records_reached B K (prv c, none)); iexact HR
  iintro HO
  iapply (Rounds.wp_signal 𝒱 ER (Rd B) (c : Thread nD τ) none (dst := (nxt c : Thread nD τ))
      (κ := K (nxt c, none)) (d := false) (by rw [duties_bar]; exact Finset.mem_univ _)
      ((amount_bar B (nxt c) false).trans (by decide)) () (owed c sends) rfl) $$ [HO Ht₂]
  · isplitr; · iapply (records_inv B K (nxt c, none)); iexact HR
    isplitl [HO]; · iexact HO
    isplitl [Ht₂]; · iexact Ht₂
    isplitr; · rw [payload_bar_false]; iempintro
    iapply (records_reached B K (nxt c, none)); iexact HR
  iintro HO
  iapply (Rounds.wp_wait_rest_token 𝒱 ER (Rd B) (c : Thread nD τ) none (κ := K (c, none))
      (wpE_semWait_eq 𝒱 (c : Thread nD τ) none Set.univ) (Set.mem_univ _) () (O := owed c sends)
      (W := W) (R := 0) (m := 0) (T := ∅) (by rw [expect_bar]; decide)) $$ [Hc HO Hat]
  · isplitr; · iexact HI
    isplitl [Hc]; · iexact Hc
    isplitl [HO]; · iexact HO
    isplitr
    · iapply (mayWait c (.reg barSem) sends (by
        show ∀ p ∈ sends, 1 < lvl p
        decide))
      iexact Hlev
    iexact Hat
  iintro ⟨HO, Hat, -, Hpay⟩
  ihave Hp := (Entails.of_eq (rest_bar B c)) $$ Hpay
  icases Hp with ⟨-, Hp⟩
  imod (Rounds.cell_close ER (Rd B) (Set.mem_univ (K (c, none))) (fun h => h) (R := 0 + 1)
    (duties_later B (bar c))) $$ [Hat] with Hz
  · isplitr; · iexact HI
    iexact Hat
  iapply HK
  isplitl [HO]; · iexists _; iexact HO
  isplitl [Hz]; · iexact Hz
  iexact Hp

end Cert.KernelIdeal.Ring
-- ==== Proof.KernelIdeal.Slots.lean ====
/- The scratch buffers as their slots. -/
module

public import proofs.«01_k».proof.Proof.KernelIdeal.Proto
public import proofs.«01_k».proof.Proof.Mem

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Mem

variable {F : FTy → Type}

local notation "𝕄" => MT nD τ sig Unit (Elt F) ℕ UU ℕ

variable (c : Dev nD)

/-- A buffer at known contents is one at some contents. -/
theorem some_intro {s : Shape} (M : Memref sig .tc .vmem s .f32)
    (X : Vec F s .f32) : (owns (c : Thread nD τ) M fullShare X : sProp 𝕄) ⊢ some' c M := by
  unfold some'
  iintro H
  iexists X
  iexact H

/-- What follows from a buffer at any contents. -/
theorem some_elim {s : Shape} (M : Memref sig .tc .vmem s .f32)
    (R : sProp (MT nD τ sig Unit (Elt F) ℕ UU ℕ))
    (h : ∀ X : Vec F s .f32, (owns (c : Thread nD τ) M fullShare X : sProp 𝕄) ⊢ R) :
    (some' c M : sProp 𝕄) ⊢ R := by
  unfold some'
  iintro ⟨%X, H⟩
  iapply (h X)
  iexact H

section Family

variable {s : Shape} (M : Memref sig .tc .vmem s .f32) {T : Type} [Fintype T] [DecidableEq T]
  (r : T → Rect s) (hr : ∀ t a, (r t).stride a = 1)
  (hd : ∀ t t', t ≠ t' → Disjoint (r t).set (r t').set)
  (hcov : (Finset.univ : Finset T).biUnion (fun t => (r t).set) = Finset.univ)

include hd hcov

omit [DecidableEq T] in
/-- A buffer at some contents is its slices at some contents, -/
theorem some_split : (some' c M : sProp 𝕄)
    ⊢ bigSep Finset.univ (fun t => some' c (M.slice (r t) (hr t))) := by
  unfold some'
  iintro ⟨%X, H⟩
  iapply (show (owns (c : Thread nD τ) M fullShare X : sProp 𝕄)
      ⊢ bigSep Finset.univ (fun t => iprop(∃ Y : Vec F _ .f32,
        owns (c : Thread nD τ) (M.slice (r t) (hr t)) fullShare Y)) from
    (owns_rects (c : Thread nD τ) M fullShare r hr hd hcov X).trans
      (bigSep_mono fun t _ => some_intro c _ _))
  iexact H

/-- and back. -/
theorem some_join [FloatOps F] : bigSep Finset.univ (fun t => some' c (M.slice (r t) (hr t)))
    ⊢ (some' c M : sProp 𝕄) := by
  have h := ownsSat_of_rects (Ix := Unit) (Name := ℕ) (U := UU) (Lvl := ℕ) (Val := Elt F)
    (c : Thread nD τ) M fullShare r hr hd hcov (fun _ _ => True)
  refine (bigSep_mono fun t _ => ?_).trans (h.trans ?_)
  · exact some_elim c _ _ fun X => ownsSat_intro (c : Thread nD τ) _ fullShare trivial
  · refine (ownsSat_elim (c : Thread nD τ) M fullShare _).trans ?_
    unfold some'
    iintro ⟨%X, -, H⟩
    iexists X
    iexact H

end Family

/-- A squeezed buffer at some contents is the buffer at some contents. -/
theorem some_squeeze {s s' : Shape} (M : Memref sig .tc .vmem s .f32) (h : s.Squeezes s') :
    (some' c (M.squeeze s' h) : sProp 𝕄) = some' c M := by
  have h₁ : (some' c (M.squeeze s' h) : sProp 𝕄) ⊢ some' c M := some_elim c _ _ fun X => by
    rw [owns_squeeze']
    exact some_intro c M _
  have h₂ : (some' c M : sProp 𝕄) ⊢ some' c (M.squeeze s' h) := some_elim c _ _ fun X => by
    rw [← owns_squeeze (c : Thread nD τ) M s' h]
    exact some_intro c _ _
  exact BI.equiv_iff.mp ⟨h₁, h₂⟩

/-! ## The slots of the seven buffers -/

/-- Query slots cover the queries, -/
theorem cover_q : (Finset.univ : Finset (Fin 4)).biUnion (fun t =>
    (Rect.unit (s := S4x256x1024) ![t.val, 0, 0] S1x256x1024.size (inb_qs t.isLt)).set)
      = Finset.univ := by
  ext i
  simp only [Finset.mem_biUnion, Finset.mem_univ, true_and, iff_true]
  refine ⟨⟨(i 0).val, (i 0).isLt⟩, Rect.mem_set_unit.mpr fun a => ?_⟩
  have := (i a).isLt
  fin_cases a <;> simp [S4x256x1024, S1x256x1024] at this ⊢ <;> omega
/-- one apart from another; -/
theorem disjoint_q (t t' : Fin 4) (h : t ≠ t') : Disjoint
    (Rect.unit (s := S4x256x1024) ![t.val, 0, 0] S1x256x1024.size (inb_qs t.isLt)).set
    (Rect.unit (s := S4x256x1024) ![t'.val, 0, 0] S1x256x1024.size (inb_qs t'.isLt)).set := by
  rw [Finset.disjoint_left]
  intro i h₁ h₂
  have e₁ := Rect.mem_set_unit.mp h₁ 0
  have e₂ := Rect.mem_set_unit.mp h₂ 0
  simp [S1x256x1024] at e₁ e₂
  exact h (Fin.ext (by omega))

/-- slots of weighted values cover theirs, -/
theorem cover_a : (Finset.univ : Finset (Fin 3)).biUnion (fun t =>
    (Rect.unit (s := S3x1024x256) ![t.val, 0, 0] S1x1024x256.size (inb_as t.isLt)).set)
      = Finset.univ := by
  ext i
  simp only [Finset.mem_biUnion, Finset.mem_univ, true_and, iff_true]
  refine ⟨⟨(i 0).val, (i 0).isLt⟩, Rect.mem_set_unit.mpr fun a => ?_⟩
  have := (i a).isLt
  fin_cases a <;> simp [S3x1024x256, S1x1024x256] at this ⊢ <;> omega
/-- one apart from another; -/
theorem disjoint_a (t t' : Fin 3) (h : t ≠ t') : Disjoint
    (Rect.unit (s := S3x1024x256) ![t.val, 0, 0] S1x1024x256.size (inb_as t.isLt)).set
    (Rect.unit (s := S3x1024x256) ![t'.val, 0, 0] S1x1024x256.size (inb_as t'.isLt)).set := by
  rw [Finset.disjoint_left]
  intro i h₁ h₂
  have e₁ := Rect.mem_set_unit.mp h₁ 0
  have e₂ := Rect.mem_set_unit.mp h₂ 0
  simp [S1x1024x256] at e₁ e₂
  exact h (Fin.ext (by omega))

/-- slots of statistics cover theirs, -/
theorem cover_m : (Finset.univ : Finset (Fin 3)).biUnion (fun t =>
    (Rect.unit (s := S3x2x8x256) ![t.val, 0, 0, 0] S1x2x8x256.size (inb_ms t.isLt)).set)
      = Finset.univ := by
  ext i
  simp only [Finset.mem_biUnion, Finset.mem_univ, true_and, iff_true]
  refine ⟨⟨(i 0).val, (i 0).isLt⟩, Rect.mem_set_unit.mpr fun a => ?_⟩
  have := (i a).isLt
  fin_cases a <;> simp [S3x2x8x256, S1x2x8x256] at this ⊢ <;> omega
/-- one apart from another. -/
theorem disjoint_m (t t' : Fin 3) (h : t ≠ t') : Disjoint
    (Rect.unit (s := S3x2x8x256) ![t.val, 0, 0, 0] S1x2x8x256.size (inb_ms t.isLt)).set
    (Rect.unit (s := S3x2x8x256) ![t'.val, 0, 0, 0] S1x2x8x256.size (inb_ms t'.isLt)).set := by
  rw [Finset.disjoint_left]
  intro i h₁ h₂
  have e₁ := Rect.mem_set_unit.mp h₁ 0
  have e₂ := Rect.mem_set_unit.mp h₂ 0
  simp [S1x2x8x256] at e₁ e₂
  exact h (Fin.ext (by omega))

/-- The queries at some contents are their four slots at some contents. -/
theorem some_q [FloatOps F] : (some' c qM : sProp 𝕄)
    = iprop(some' c (qSlot qM 0 (by decide)) ∗ some' c (qSlot qM 1 (by decide))
      ∗ some' c (qSlot qM 2 (by decide)) ∗ some' c (qSlot qM 3 (by decide))) := by
  rw [BI.equiv_iff.mp ⟨some_split (F := F) c qM _ (fun _ _ => rfl) disjoint_q cover_q,
    some_join c qM _ (fun _ _ => rfl) disjoint_q cover_q⟩,
    bigSep_univ_eq_bigSepL [0, 1, 2, 3] (by decide) (by decide)]
  simp only [qSlot, some_squeeze]
  rfl

/-- Weighted values at some contents are their three slots at some contents. -/
theorem some_a [FloatOps F] (M : Memref sig .tc .vmem S3x1024x256 .f32) : (some' c M : sProp 𝕄)
    = iprop(some' c (aSlot M 0 (by decide)) ∗ some' c (aSlot M 1 (by decide))
      ∗ some' c (aSlot M 2 (by decide))) := by
  rw [BI.equiv_iff.mp ⟨some_split (F := F) c M _ (fun _ _ => rfl) disjoint_a cover_a,
    some_join c M _ (fun _ _ => rfl) disjoint_a cover_a⟩,
    bigSep_univ_eq_bigSepL [0, 1, 2] (by decide) (by decide)]
  simp only [aSlot, some_squeeze]
  rfl

/-- Statistics at some contents are their three slots at some contents. -/
theorem some_m [FloatOps F] (M : Memref sig .tc .vmem S3x2x8x256 .f32) : (some' c M : sProp 𝕄)
    = iprop(some' c (mSlot M 0 (by decide)) ∗ some' c (mSlot M 1 (by decide))
      ∗ some' c (mSlot M 2 (by decide))) := by
  rw [BI.equiv_iff.mp ⟨some_split (F := F) c M _ (fun _ _ => rfl) disjoint_m cover_m,
    some_join c M _ (fun _ _ => rfl) disjoint_m cover_m⟩,
    bigSep_univ_eq_bigSepL [0, 1, 2] (by decide) (by decide)]
  simp only [mSlot, some_squeeze]
  rfl

end Cert.KernelIdeal.Ring
-- ==== Proof.KernelIdeal.Heads.lean ====
/- What one head, eight heads, the projection and the output do to the buffers. -/
module

public import proofs.«01_k».proof.Proof.KernelIdeal.Cont

@[expose] public section

noncomputable section

namespace Cert.KernelIdeal.Ring

open Idealize.ShloMosaic Idealize.ShloMosaic.ValueIdx
open Idealize.ShloMosaic.TcCoe
open Idealize.SL Idealize.SL.RA Idealize.SL.Sem Idealize.SL.ProofMode
open Idealize.SL.BI (sProp)
open scoped Idealize.SL.BI
open Idealize.SL.BI.BIBase Idealize.SL.BI.Laws
open Cert.KernelIdeal Cert.KernelIdeal.Gen Cert.Mem

variable {F : FTy → Type} [FloatOps F] {U : Type} [URA U]

local notation "𝕄" => MT nD τ sig Unit (Elt F) ℕ U ℕ

variable {defs : Defs nD τ sig (Elt F) Λ₀} {𝒱 : Variants} {c : Dev nD}
  {Q : PUnit → sProp (MT nD τ sig Unit (Elt F) ℕ U ℕ)}

/-- Eight heads, given what each does. -/
theorem wp_heads (P : Nat → sProp (MT nD τ sig Unit (Elt F) ℕ U ℕ))
    (f : (h : Nat) → h < 8 → KProg F → KProg F)
    (hf : ∀ h hh K, P h ⊢ iprop((P (h + 1) -∗ wp frame (wpE defs 𝒱 (c : Thread nD τ) none) Set.univ K Q)
      -∗ wp frame (wpE defs 𝒱 (c : Thread nD τ) none) Set.univ (f h hh K) Q)) (K : KProg F) :
    P 0 ⊢ iprop((P 8 -∗ wp frame (wpE defs 𝒱 (c : Thread nD τ) none) Set.univ K Q)
      -∗ wp frame (wpE defs 𝒱 (c : Thread nD τ) none) Set.univ (heads f K) Q) := by
  iintro H HK
  iapply (hf 0 _ _) $$ H; iintro H
  iapply (hf 1 _ _) $$ H; iintro H
  iapply (hf 2 _ _) $$ H; iintro H
  iapply (hf 3 _ _) $$ H; iintro H
  iapply (hf 4 _ _) $$ H; iintro H
  iapply (hf 5 _ _) $$ H; iintro H
  iapply (hf 6 _ _) $$ H; iintro H
  iapply (hf 7 _ _) $$ H; iintro H
  iapply HK
  iexact H

section

variable (arg3 arg4 : Memref sig .tc .vmem S4096x1024 .f32)
  (arg6 : Memref sig .tc .vmem S4x256x1024 .f32)
  (accM : Memref sig .tc .vmem S1024x256 .f32) (mlM : Memref sig .tc .vmem S2x8x256 .f32)
  (d : Nat) (hd : d < 4) (qq qk qv : PosShare TreeShare)
  (q : Vec F S256x1024 .f32) (k v : Vec F S4096x1024 .f32)
  (X : Vec F S1024x256 .f32) (Y : Vec F S2x8x256 .f32)

/-- The buffers after the partial sums of `h` heads. -/
def inPart (c : Dev nD) (h : Nat) : sProp 𝕄 :=
  iprop(owns (c : Thread nD τ) (qSlot arg6 d hd) qq q ∗ owns (c : Thread nD τ) arg3 qk k
    ∗ owns (c : Thread nD τ) arg4 qv v
    ∗ owns (c : Thread nD τ) accM fullShare (mixA (partA q k v) X h)
    ∗ owns (c : Thread nD τ) mlM fullShare (mixM (partM q k) (partL q k) Y h))

/-- One head more. -/
theorem wp_headPart (h : Nat) (hh : h < 8) (K : KProg F) :
    (inPart arg3 arg4 arg6 accM mlM d hd qq qk qv q k v X Y c h : sProp 𝕄)
      ⊢ iprop((inPart arg3 arg4 arg6 accM mlM d hd qq qk qv q k v X Y c (h + 1)
          -∗ wp frame (wpE defs 𝒱 (c : Thread nD τ) none) Set.univ K Q)
        -∗ wp frame (wpE defs 𝒱 (c : Thread nD τ) none) Set.univ
          (headPart arg3 arg4 arg6 accM mlM d hd h hh K) Q) := by
  unfold inPart headPart
  iintro ⟨Hq, Hk, Hv, Ha, Hm⟩ HK
  iapply (wp_ld_slot 𝒱 (c : Thread nD τ) none Set.univ _ (fun j => emb_q d h hd hh j _)) $$ Hq
  iintro Hq
  iapply (wp_ld 𝒱 (c : Thread nD τ) none Set.univ) $$ Hk; iintro Hk
  iapply (wp_ld 𝒱 (c : Thread nD τ) none Set.univ) $$ Hv; iintro Hv
  iapply (wp_ld 𝒱 (c : Thread nD τ) none Set.univ) $$ Ha; iintro Ha
  iapply (wp_st 𝒱 (c : Thread nD τ) none Set.univ) $$ Ha; iintro Ha
  iapply (wp_ld 𝒱 (c : Thread nD τ) none Set.univ) $$ Hm; iintro Hm
  iapply (wp_st 𝒱 (c : Thread nD τ) none Set.univ) $$ Hm; iintro Hm
  iapply (wp_ld 𝒱 (c : Thread nD τ) none Set.univ) $$ Hm; iintro Hm
  iapply (wp_st 𝒱 (c : Thread nD τ) none Set.univ) $$ Hm; iintro Hm
  iapply HK
  isplitl [Hq]; · iexact Hq
  isplitl [Hk]; · iexact Hk
  isplitl [Hv]; · iexact Hv
  rw [← mixA_step _ _ h hh, ← mixM_step _ _ _ h hh]
  isplitl [Ha]; · iexact Ha
  iexact Hm

/-- The partial sums of all heads: the buffers `accM` and `mlM` hold them. -/
theorem wp_part (K : KProg F) :
    (iprop(owns (c : Thread nD τ) (qSlot arg6 d hd) qq q ∗ owns (c : Thread nD τ) arg3 qk k
        ∗ owns (c : Thread nD τ) arg4 qv v ∗ owns (c : Thread nD τ) accM fullShare X
        ∗ owns (c : Thread nD τ) mlM fullShare Y) : sProp 𝕄)
      ⊢ iprop((iprop(owns (c : Thread nD τ) (qSlot arg6 d hd) qq q
            ∗ owns (c : Thread nD τ) arg3 qk k ∗ owns (c : Thread nD τ) arg4 qv v
            ∗ owns (c : Thread nD τ) accM fullShare (part q k v).acc
            ∗ owns (c : Thread nD τ) mlM fullShare (part q k v).ml)
          -∗ wp frame (wpE defs 𝒱 (c : Thread nD τ) none) Set.univ K Q)
        -∗ wp frame (wpE defs 𝒱 (c : Thread nD τ) none) Set.univ
          (heads (headPart arg3 arg4 arg6 accM mlM d hd) K) Q) := by
  have := wp_heads (defs := defs) (𝒱 := 𝒱) (c := c) (Q := Q)
    (inPart arg3 arg4 arg6 accM mlM d hd qq qk qv q k v X Y c) _
    (fun h hh K => wp_headPart arg3 arg4 arg6 accM mlM d hd qq qk qv q k v X Y h hh K) K
  simpa only [inPart, mixA_zero, mixM_zero, mixA_all, mixM_all, part] using this

end

section

variable (arg7 : Memref sig .tc .vmem S1024x256 .f32) (arg8 : Memref sig .tc .vmem S2x8x256 .f32)
  (arg11 : Memref sig .tc .vmem S3x1024x256 .f32) (arg12 : Memref sig .tc .vmem S3x2x8x256 .f32)
  (accM : Memref sig .tc .vmem S1024x256 .f32) (mlM : Memref sig .tc .vmem S2x8x256 .f32)
  (s : Nat) (hs : s < 3) (R P : Slot F)
  (X : Vec F S1024x256 .f32) (Y : Vec F S2x8x256 .f32)

/-- The buffers after the merge of `h` heads. -/
def inMerge (c : Dev nD) (h : Nat) : sProp 𝕄 :=
  iprop(owns (c : Thread nD τ) (aSlot arg11 s hs) fullShare R.acc
    ∗ owns (c : Thread nD τ) (mSlot arg12 s hs) fullShare R.ml
    ∗ owns (c : Thread nD τ) arg7 fullShare P.acc ∗ owns (c : Thread nD τ) arg8 fullShare P.ml
    ∗ owns (c : Thread nD τ) accM fullShare (mixA (combA R P) X h)
    ∗ owns (c : Thread nD τ) mlM fullShare (mixM (combM R P) (combL R P) Y h))

/-- One head more. -/
theorem wp_headMerge (h : Nat) (hh : h < 8) (K : KProg F) :
    (inMerge arg7 arg8 arg11 arg12 accM mlM s hs R P X Y c h : sProp 𝕄)
      ⊢ iprop((inMerge arg7 arg8 arg11 arg12 accM mlM s hs R P X Y c (h + 1)
          -∗ wp frame (wpE defs 𝒱 (c : Thread nD τ) none) Set.univ K Q)
        -∗ wp frame (wpE defs 𝒱 (c : Thread nD τ) none) Set.univ
          (headMerge arg7 arg8 arg11 arg12 accM mlM s hs h hh K) Q) := by
  unfold inMerge headMerge
  iintro ⟨HRa, HRm, HPa, HPm, Ha, Hm⟩ HK
  iapply (wp_ld_slot 𝒱 (c : Thread nD τ) none Set.univ _
    (fun j => emb_rm s 0 h hs (by decide) hh j _)) $$ HRm
  iintro HRm
  iapply (wp_ld_slot 𝒱 (c : Thread nD τ) none Set.univ _
    (fun j => emb_rm s 1 h hs (by decide) hh j _)) $$ HRm
  iintro HRm
  iapply (wp_ld 𝒱 (c : Thread nD τ) none Set.univ) $$ HPm; iintro HPm
  iapply (wp_ld 𝒱 (c : Thread nD τ) none Set.univ) $$ HPm; iintro HPm
  iapply (wp_ld_slot 𝒱 (c : Thread nD τ) none Set.univ _ (fun j => emb_ra s h hs hh j _)) $$ HRa
  iintro HRa
  iapply (wp_ld 𝒱 (c : Thread nD τ) none Set.univ) $$ HPa; iintro HPa
  iapply (wp_ld 𝒱 (c : Thread nD τ) none Set.univ) $$ Ha; iintro Ha
  iapply (wp_st 𝒱 (c : Thread nD τ) none Set.univ) $$ Ha; iintro Ha
  iapply (wp_ld 𝒱 (c : Thread nD τ) none Set.univ) $$ Hm; iintro Hm
  iapply (wp_st 𝒱 (c : Thread nD τ) none Set.univ) $$ Hm; iintro Hm
  iapply (wp_ld 𝒱 (c : Thread nD τ) none Set.univ) $$ Hm; iintro Hm
  iapply (wp_st 𝒱 (c : Thread nD τ) none Set.univ) $$ Hm; iintro Hm
  iapply HK
  isplitl [HRa]; · iexact HRa
  isplitl [HRm]; · iexact HRm
  isplitl [HPa]; · iexact HPa
  isplitl [HPm]; · iexact HPm
  rw [← mixA_step _ _ h hh, ← mixM_step _ _ _ h hh]
  isplitl [Ha]; · iexact Ha
  iexact Hm

/-- The merge of all heads: the buffers `accM` and `mlM` hold it. -/
theorem wp_merge (K : KProg F) :
    (iprop(owns (c : Thread nD τ) (aSlot arg11 s hs) fullShare R.acc
        ∗ owns (c : Thread nD τ) (mSlot arg12 s hs) fullShare R.ml
        ∗ owns (c : Thread nD τ) arg7 fullShare P.acc ∗ owns (c : Thread nD τ) arg8 fullShare P.ml
        ∗ owns (c : Thread nD τ) accM fullShare X
        ∗ owns (c : Thread nD τ) mlM fullShare Y) : sProp 𝕄)
      ⊢ iprop((iprop(owns (c : Thread nD τ) (aSlot arg11 s hs) fullShare R.acc
            ∗ owns (c : Thread nD τ) (mSlot arg12 s hs) fullShare R.ml
            ∗ owns (c : Thread nD τ) arg7 fullShare P.acc
            ∗ owns (c : Thread nD τ) arg8 fullShare P.ml
            ∗ owns (c : Thread nD τ) accM fullShare (comb R P).acc
            ∗ owns (c : Thread nD τ) mlM fullShare (comb R P).ml)
          -∗ wp frame (wpE defs 𝒱 (c : Thread nD τ) none) Set.univ K Q)
        -∗ wp frame (wpE defs 𝒱 (c : Thread nD τ) none) Set.univ
          (heads (headMerge arg7 arg8 arg11 arg12 accM mlM s hs) K) Q) := by
  have := wp_heads (defs := defs) (𝒱 := 𝒱) (c := c) (Q := Q)
    (inMerge arg7 arg8 arg11 arg12 accM mlM s hs R P X Y c) _
    (fun h hh K => wp_headMerge arg7 arg8 arg11 arg12 accM mlM s hs R P X Y h hh K) K
  simpa only [inMerge, mixA_zero, mixM_zero, mixA_all, mixM_all, comb] using this

/-- The buffers after the last merge of `h` heads. -/
def inLast (c : Dev nD) (h : Nat) : sProp 𝕄 :=
  iprop(owns (c : Thread nD τ) (aSlot arg11 s hs) fullShare R.acc
    ∗ owns (c : Thread nD τ) (mSlot arg12 s hs) fullShare R.ml
    ∗ owns (c : Thread nD τ) arg7 fullShare (mixA (combN R P) P.acc h)
    ∗ owns (c : Thread nD τ) arg8 fullShare P.ml)

/-- One head more. -/
theorem wp_headLast (h : Nat) (hh : h < 8) (K : KProg F) :
    (inLast arg7 arg8 arg11 arg12 s hs R P c h : sProp 𝕄)
      ⊢ iprop((inLast arg7 arg8 arg11 arg12 s hs R P c (h + 1)
          -∗ wp frame (wpE defs 𝒱 (c : Thread nD τ) none) Set.univ K Q)
        -∗ wp frame (wpE defs 𝒱 (c : Thread nD τ) none) Set.univ
          (headMergeN arg7 arg8 arg11 arg12 s hs h hh K) Q) := by
  unfold inLast headMergeN
  iintro ⟨HRa, HRm, HPa, HPm⟩ HK
  iapply (wp_ld_slot 𝒱 (c : Thread nD τ) none Set.univ _
    (fun j => emb_rm s 0 h hs (by decide) hh j _)) $$ HRm
  iintro HRm
  iapply (wp_ld_slot 𝒱 (c : Thread nD τ) none Set.univ _
    (fun j => emb_rm s 1 h hs (by decide) hh j _)) $$ HRm
  iintro HRm
  iapply (wp_ld 𝒱 (c : Thread nD τ) none Set.univ) $$ HPm; iintro HPm
  iapply (wp_ld 𝒱 (c : Thread nD τ) none Set.univ) $$ HPm; iintro HPm
  iapply (wp_ld_slot 𝒱 (c : Thread nD τ) none Set.univ _ (fun j => emb_ra s h hs hh j _)) $$ HRa
  iintro HRa
  iapply (wp_ld 𝒱 (c : Thread nD τ) none Set.univ) $$ HPa; iintro HPa
  iapply (wp_ld 𝒱 (c : Thread nD τ) none Set.univ) $$ HPa; iintro HPa
  rw [mixA_head]
  iapply (wp_st 𝒱 (c : Thread nD τ) none Set.univ) $$ HPa; iintro HPa
  iapply HK
  isplitl [HRa]; · iexact HRa
  isplitl [HRm]; · iexact HRm
  rw [← mixA_step _ _ h hh]
  isplitl [HPa]; · iexact HPa
  iexact HPm

/-- The last merge of all heads: the device's own buffer holds the normalised values. -/
theorem wp_last (K : KProg F) :
    (iprop(owns (c : Thread nD τ) (aSlot arg11 s hs) fullShare R.acc
        ∗ owns (c : Thread nD τ) (mSlot arg12 s hs) fullShare R.ml
        ∗ owns (c : Thread nD τ) arg7 fullShare P.acc
        ∗ owns (c : Thread nD τ) arg8 fullShare P.ml) : sProp 𝕄)
      ⊢ iprop((iprop(owns (c : Thread nD τ) (aSlot arg11 s hs) fullShare R.acc
            ∗ owns (c : Thread nD τ) (mSlot arg12 s hs) fullShare R.ml
            ∗ owns (c : Thread nD τ) arg7 fullShare (tileA (combN R P))
            ∗ owns (c : Thread nD τ) arg8 fullShare P.ml)
          -∗ wp frame (wpE defs 𝒱 (c : Thread nD τ) none) Set.univ K Q)
        -∗ wp frame (wpE defs 𝒱 (c : Thread nD τ) none) Set.univ
          (heads (headMergeN arg7 arg8 arg11 arg12 s hs) K) Q) := by
  have := wp_heads (defs := defs) (𝒱 := 𝒱) (c := c) (Q := Q)
    (inLast arg7 arg8 arg11 arg12 s hs R P c) _
    (fun h hh K => wp_headLast arg7 arg8 arg11 arg12 s hs R P h hh K) K
  simpa only [inLast, mixA_zero, mixA_all] using this

end

theorem zero2 : (![0, 0] : Fin 2 → Nat) = fun _ => 0 := by
  funext a; fin_cases a <;> rfl

/-- The scaled queries read back out of the slot's shape. -/
theorem slot_cast (v : FVec F S256x1024 .f32) (hn : S256x1024.numel = S1x256x1024.numel) :
    (fun j : S256x1024.Idx => shapeCast S1x256x1024 v shapeCasts_S256x1024_S1x256x1024
      (Shape.reshapeEquiv hn j)) = v := by
  exact shapeCast_shapeCast v shapeCasts_S256x1024_S1x256x1024 hn

/-- The projection fills query slot 0. -/
theorem wp_project (arg0 : Memref sig .tc .vmem S256x1024 .f32)
    (arg1 : Memref sig .tc .vmem S1024x1024 .f32) (arg6 : Memref sig .tc .vmem S4x256x1024 .f32)
    (q₀ q₁ : PosShare TreeShare) (x : Vec F S256x1024 .f32) (w : Vec F S1024x1024 .f32)
    (X : Vec F S256x1024 .f32) (K : KProg F) :
    (iprop(owns (c : Thread nD τ) arg0 q₀ x ∗ owns (c : Thread nD τ) arg1 q₁ w
        ∗ owns (c : Thread nD τ) (qSlot arg6 0 (by decide)) fullShare X) : sProp 𝕄)
      ⊢ iprop((iprop(owns (c : Thread nD τ) arg0 q₀ x ∗ owns (c : Thread nD τ) arg1 q₁ w
            ∗ owns (c : Thread nD τ) (qSlot arg6 0 (by decide)) fullShare (qVal x w))
          -∗ wp frame (wpE defs 𝒱 (c : Thread nD τ) none) Set.univ K Q)
        -∗ wp frame (wpE defs 𝒱 (c : Thread nD τ) none) Set.univ (project arg0 arg1 arg6 K) Q) := by
  unfold project
  iintro ⟨Hx, Hw, Hq⟩ HK
  iapply (wp_ld 𝒱 (c : Thread nD τ) none Set.univ) $$ Hx; iintro Hx
  iapply (wp_ld 𝒱 (c : Thread nD τ) none Set.univ) $$ Hw; iintro Hw
  rw [ld_whole zero2, ld_whole zero2]
  iapply (wp_ld_all 𝒱 (c : Thread nD τ) none Set.univ) $$ Hq
  iintro Hq
  iapply (wp_st_slot 𝒱 (c : Thread nD τ) none Set.univ) $$ Hq; iintro Hq
  iapply HK
  isplitl [Hx]; · iexact Hx
  isplitl [Hw]; · iexact Hw
  rw [slot_cast]
  iexact Hq

/-- The output fills the result's block. -/
theorem wp_output (arg2 : Memref sig .tc .vmem S1024x1024 .f32)
    (arg5 : Memref sig .tc .vmem S256x1024 .f32) (arg7 : Memref sig .tc .vmem S1024x256 .f32)
    (q₂ : PosShare TreeShare) (a : Vec F S1024x256 .f32) (w : Vec F S1024x1024 .f32)
    (X : Vec F S256x1024 .f32) (K : KProg F) :
    (iprop(owns (c : Thread nD τ) arg2 q₂ w ∗ owns (c : Thread nD τ) arg5 fullShare X
        ∗ owns (c : Thread nD τ) arg7 fullShare a) : sProp 𝕄)
      ⊢ iprop((iprop(owns (c : Thread nD τ) arg2 q₂ w
            ∗ owns (c : Thread nD τ) arg5 fullShare (outVal a w)
            ∗ owns (c : Thread nD τ) arg7 fullShare a)
          -∗ wp frame (wpE defs 𝒱 (c : Thread nD τ) none) Set.univ K Q)
        -∗ wp frame (wpE defs 𝒱 (c : Thread nD τ) none) Set.univ (output arg2 arg5 arg7 K) Q) := by
  unfold output
  iintro ⟨Hw, Ho, Ha⟩ HK
  iapply (wp_ld 𝒱 (c : Thread nD τ) none Set.univ) $$ Ha; iintro Ha
  iapply (wp_ld 𝒱 (c : Thread nD τ) none Set.univ) $$ Hw; iintro Hw
  iapply (wp_ld 𝒱 (c : Thread nD τ) none Set.univ) $$ Ho; iintro Ho
  iapply (wp_st 𝒱 (c : Thread nD τ) none Set.univ) $$ Ho; iintro Ho
  rw [ld_whole zero2, ld_whole zero2, st_whole zero2]
  iapply HK
  isplitl [Hw]; · iexact Hw
  isplitl [Ho]; · iexact Ho
  iexact Ha

end Cert.KernelIdeal.Ring
-- ==== Proof.KernelIdeal.Body.lean ====
/- The body of one device, from what it is given to what it returns. -/
module

public import proofs.«01_k».proof.Proof.KernelIdeal.Slots
public import proofs.«01_k».proof.Proof.KernelIdeal.Heads

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Mem

variable {F : FTy → Type} [FloatOps F]

local notation "𝕄" => MT nD τ sig Unit (Elt F) ℕ UU ℕ

variable (B : Blocks F) {defs : Defs nD τ sig (Elt F) Λ₀} {𝒱 : Variants} {c : Dev nD}
  {Q : PUnit → sProp (MT nD τ sig Unit (Elt F) ℕ UU ℕ)} (K : Dev nD × CK → ℕ)

/-! ## The neighbours the body names -/

theorem dev1_eq (c : Dev nD) : (⟨k0_dev1 c, k0_dev1_lt c⟩ : Dev nD) = prv c := by
  revert c; decide
theorem dev2_eq (c : Dev nD) : (⟨k0_dev2 c, k0_dev2_lt c⟩ : Dev nD) = nxt c := by
  revert c; decide
theorem dev3_eq (c : Dev nD) : (⟨k0_dev3 c, k0_dev3_lt c⟩ : Dev nD) = nxt c := by
  revert c; decide
theorem dev4_eq (c : Dev nD) : (⟨k0_dev4 c, k0_dev4_lt c⟩ : Dev nD) = nxt c := by
  revert c; decide
theorem dev5_eq (c : Dev nD) : (⟨k0_dev5 c, k0_dev5_lt c⟩ : Dev nD) = nxt c := by
  revert c; decide
theorem dev6_eq (c : Dev nD) : (⟨k0_dev6 c, k0_dev6_lt c⟩ : Dev nD) = nxt c := by
  revert c; decide
theorem dev7_eq (c : Dev nD) : (⟨k0_dev7 c, k0_dev7_lt c⟩ : Dev nD) = nxt c := by
  revert c; decide
theorem dev8_eq (c : Dev nD) : (⟨k0_dev8 c, k0_dev8_lt c⟩ : Dev nD) = nxt c := by
  revert c; decide
theorem dev9_eq (c : Dev nD) : (⟨k0_dev9 c, k0_dev9_lt c⟩ : Dev nD) = nxt c := by
  revert c; decide
theorem dev10_eq (c : Dev nD) : (⟨k0_dev10 c, k0_dev10_lt c⟩ : Dev nD) = nxt c := by
  revert c; decide
theorem dev11_eq (c : Dev nD) : (⟨k0_dev11 c, k0_dev11_lt c⟩ : Dev nD) = nxt c := by
  revert c; decide

/-! ## The copies of the body -/

theorem pay_q (s : Nat) (hs : s < 3) : pay B c (0, false, ⟨s, hs⟩)
    = owns (c : Thread nD τ) (qSlot qM s (by omega)) fullShare.left (Qs B s c) := rfl
theorem pay_sa (s : Nat) (hs : s < 3) : pay B c (1, false, ⟨s, hs⟩)
    = owns (c : Thread nD τ) (aSlot saM s hs) fullShare (C B s c).acc := rfl
theorem pay_ra (s : Nat) (hs : s < 3) : pay B c (1, true, ⟨s, hs⟩)
    = owns (c : Thread nD τ) (aSlot raM s hs) fullShare (C B s (prv c)).acc := rfl
theorem pay_sm (s : Nat) (hs : s < 3) : pay B c (2, false, ⟨s, hs⟩)
    = owns (c : Thread nD τ) (mSlot smM s hs) fullShare (C B s c).ml := rfl
theorem pay_rm (s : Nat) (hs : s < 3) : pay B c (2, true, ⟨s, hs⟩)
    = owns (c : Thread nD τ) (mSlot rmM s hs) fullShare (C B s (prv c)).ml := rfl

/-- A query slot is sent, half of it lent. -/
theorem wp_sendQ (d : Nat) (hd : d < 3) (n : Dev nD) (hn : n = nxt c) (l : List Cell) (k : KProg F) :
    (iprop(records B K ∗ owns (c : Thread nD τ) (qSlot qM d (by omega)) fullShare.left (Qs B d c)
        ∗ some' (nxt c) (qSlot qM (d + 1) (by omega))
        ∗ owing c (owed c ((0, true, ⟨d, hd⟩) :: l)) ∗ snd c 0 ⟨d, hd⟩) : sProp 𝕄)
      ⊢ iprop((iprop(owing c (owed c l) ∗ rcv c (0, false, ⟨d, hd⟩))
          -∗ wp frame (wpE defs 𝒱 (c : Thread nD τ) none) Set.univ k Q)
        -∗ wp frame (wpE defs 𝒱 (c : Thread nD τ) none) Set.univ
            (sendQ qM cc0_scratch7 n d hd k) Q) :=
  wp_send_cell B K (qSlot qM d (by omega)) (qSlot qM (d + 1) (by omega)) _ _ n hn 0 ⟨d, hd⟩ _ _
    (dsem_eq 0 false ⟨d, hd⟩ (by decide)) (dsem_eq 0 true ⟨d, hd⟩ (by decide)) (amt_q _ _) _ _ .rfl
    (by
      show _ ⊢ owns (nxt c : Thread nD τ) (qSlot qM (d + 1) _) fullShare (Qs B d (prv (nxt c)))
      rw [prv_nxt]) l k

/-- A query slot is received. -/
theorem wp_recvQ (d : Nat) (hd : d < 3) (l : List Cell)
    (hl : ∀ p' ∈ l, lvl (0, true, ⟨d, hd⟩) < lvl p') (k : KProg F) :
    (iprop(records B K ∗ levAts L lv ∗ owing c (owed c l) ∗ rcv c (0, true, ⟨d, hd⟩)) : sProp 𝕄)
      ⊢ iprop((iprop(owing c (owed c l) ∗ semVal (cel c (0, true, ⟨d, hd⟩)) 0
            ∗ owns (c : Thread nD τ) (qSlot qM (d + 1) (by omega)) fullShare (Qs B (d + 1) c))
          -∗ wp frame (wpE defs 𝒱 (c : Thread nD τ) none) Set.univ k Q)
        -∗ wp frame (wpE defs 𝒱 (c : Thread nD τ) none) Set.univ (recvQ qM cc0_scratch7 d hd k) Q) :=
  wp_wait_cell B K (qSlot qM d (by omega)) (qSlot qM (d + 1) (by omega)) _ _ (0, true, ⟨d, hd⟩) _
    (dsem_eq 0 true ⟨d, hd⟩ (by decide)) (amt_q _ _) l hl k

/-- The sums are sent. -/
theorem wp_sendC (s : Nat) (hs : s < 3) (n n' : Dev nD) (hn : n = nxt c) (hn' : n' = nxt c)
    (l : List Cell) (k : KProg F) :
    (iprop(records B K ∗ owns (c : Thread nD τ) (aSlot saM s hs) fullShare (C B s c).acc
        ∗ owns (c : Thread nD τ) (mSlot smM s hs) fullShare (C B s c).ml
        ∗ some' (nxt c) (aSlot raM s hs) ∗ some' (nxt c) (mSlot rmM s hs)
        ∗ owing c (owed c ((1, true, ⟨s, hs⟩) :: (2, true, ⟨s, hs⟩) :: l))
        ∗ snd c 1 ⟨s, hs⟩ ∗ snd c 2 ⟨s, hs⟩) : sProp 𝕄)
      ⊢ iprop((iprop(owing c (owed c l) ∗ rcv c (1, false, ⟨s, hs⟩) ∗ rcv c (2, false, ⟨s, hs⟩))
          -∗ wp frame (wpE defs 𝒱 (c : Thread nD τ) none) Set.univ k Q)
        -∗ wp frame (wpE defs 𝒱 (c : Thread nD τ) none) Set.univ
            (sendC saM smM raM rmM cc0_scratch7 n n' s hs k) Q) := by
  unfold sendC
  iintro ⟨#HR, Ha, Hm, Hra, Hrm, HO, H1, H2⟩ HK
  iapply (wp_send_cell B K (aSlot saM s hs) (aSlot raM s hs) _ _ n hn 1 ⟨s, hs⟩ _ _
    (dsem_eq 1 false ⟨s, hs⟩ (by decide)) (dsem_eq 1 true ⟨s, hs⟩ (by decide)) (amt_ra s hs) fullShare
    (C B s c).acc .rfl
    (by
      show _ ⊢ owns (nxt c : Thread nD τ) (aSlot raM s _) fullShare (C B s (prv (nxt c))).acc
      rw [prv_nxt]) _ _) $$ [Ha Hra HO H1]
  · isplitr; · iexact HR
    isplitl [Ha]; · iexact Ha
    isplitl [Hra]; · iexact Hra
    isplitl [HO]; · iexact HO
    iexact H1
  iintro ⟨HO, Hr1⟩
  iapply (wp_send_cell B K (mSlot smM s hs) (mSlot rmM s hs) _ _ n' hn' 2 ⟨s, hs⟩ _ _
    (dsem_eq 2 false ⟨s, hs⟩ (by decide)) (dsem_eq 2 true ⟨s, hs⟩ (by decide)) (amt_rm s hs) fullShare
    (C B s c).ml .rfl
    (by
      show _ ⊢ owns (nxt c : Thread nD τ) (mSlot rmM s _) fullShare (C B s (prv (nxt c))).ml
      rw [prv_nxt]) _ _) $$ [Hm Hrm HO H2]
  · isplitr; · iexact HR
    isplitl [Hm]; · iexact Hm
    isplitl [Hrm]; · iexact Hrm
    isplitl [HO]; · iexact HO
    iexact H2
  iintro ⟨HO, Hr2⟩
  iapply HK
  isplitl [HO]; · iexact HO
  isplitl [Hr1]; · iexact Hr1
  iexact Hr2

/-- The sums are received. -/
theorem wp_recvC (s : Nat) (hs : s < 3) (l : List Cell)
    (hl : ∀ p' ∈ l, lvl (1, true, ⟨s, hs⟩) < lvl p') (k : KProg F) :
    (iprop(records B K ∗ levAts L lv ∗ owing c (owed c l) ∗ rcv c (1, true, ⟨s, hs⟩)
        ∗ rcv c (2, true, ⟨s, hs⟩)) : sProp 𝕄)
      ⊢ iprop((iprop(owing c (owed c l) ∗ semVal (cel c (1, true, ⟨s, hs⟩)) 0
            ∗ semVal (cel c (2, true, ⟨s, hs⟩)) 0
            ∗ owns (c : Thread nD τ) (aSlot raM s hs) fullShare (C B s (prv c)).acc
            ∗ owns (c : Thread nD τ) (mSlot rmM s hs) fullShare (C B s (prv c)).ml)
          -∗ wp frame (wpE defs 𝒱 (c : Thread nD τ) none) Set.univ k Q)
        -∗ wp frame (wpE defs 𝒱 (c : Thread nD τ) none) Set.univ
            (recvC saM smM raM rmM cc0_scratch7 s hs k) Q) := by
  unfold recvC
  iintro ⟨#HR, #Hlev, HO, H1, H2⟩ HK
  iapply (wp_wait_cell B K (aSlot saM s hs) (aSlot raM s hs) _ _ (1, true, ⟨s, hs⟩) _
    (dsem_eq 1 true ⟨s, hs⟩ (by decide)) (amt_ra s hs) l
    hl _) $$ [HO H1]
  · isplitr; · iexact HR
    isplitr; · iexact Hlev
    isplitl [HO]; · iexact HO
    iexact H1
  iintro ⟨HO, Hz1, Ha⟩
  iapply (wp_wait_cell B K (mSlot smM s hs) (mSlot rmM s hs) _ _ (2, true, ⟨s, hs⟩) _
    (dsem_eq 2 true ⟨s, hs⟩ (by decide)) (amt_rm s hs) l
    hl _) $$ [HO H2]
  · isplitr; · iexact HR
    isplitr; · iexact Hlev
    isplitl [HO]; · iexact HO
    iexact H2
  iintro ⟨HO, Hz2, Hm⟩
  iapply HK
  isplitl [HO]; · iexact HO
  isplitl [Hz1]; · iexact Hz1
  isplitl [Hz2]; · iexact Hz2
  isplitl [Ha]; · iapply (Entails.of_eq (pay_ra B s hs)) $$ Ha
  iapply (Entails.of_eq (pay_rm B s hs)) $$ Hm

/-- What was sent comes back. -/
theorem wp_drain (s : Nat) (hs : s < 3) (k : KProg F) :
    (iprop(records B K ∗ levAts L lv ∗ owing c (owed c []) ∗ rcv c (0, false, ⟨s, hs⟩)
        ∗ rcv c (1, false, ⟨s, hs⟩) ∗ rcv c (2, false, ⟨s, hs⟩)) : sProp 𝕄)
      ⊢ iprop((iprop(owing c (owed c []) ∗ (semVal (cel c (0, false, ⟨s, hs⟩)) 0
            ∗ semVal (cel c (1, false, ⟨s, hs⟩)) 0 ∗ semVal (cel c (2, false, ⟨s, hs⟩)) 0)
            ∗ owns (c : Thread nD τ) (qSlot qM s (by omega)) fullShare.left (Qs B s c)
            ∗ owns (c : Thread nD τ) (aSlot saM s hs) fullShare (C B s c).acc
            ∗ owns (c : Thread nD τ) (mSlot smM s hs) fullShare (C B s c).ml)
          -∗ wp frame (wpE defs 𝒱 (c : Thread nD τ) none) Set.univ k Q)
        -∗ wp frame (wpE defs 𝒱 (c : Thread nD τ) none) Set.univ
            (drain qM saM smM raM rmM cc0_scratch7 s hs k) Q) := by
  unfold drain
  iintro ⟨#HR, #Hlev, HO, H0, H1, H2⟩ HK
  iapply (wp_wait_cell B K (qSlot qM (s + 1) (by omega)) (qSlot qM s (by omega)) _ _ (0, false, ⟨s, hs⟩) _
    (dsem_eq 0 false ⟨s, hs⟩ (by decide)) (amt_q s _)
    [] (fun _ h => by cases h) _) $$ [HO H0]
  · isplitr; · iexact HR
    isplitr; · iexact Hlev
    isplitl [HO]; · iexact HO
    iexact H0
  iintro ⟨HO, Hz0, Hq⟩
  iapply (wp_wait_cell B K (aSlot raM s hs) (aSlot saM s hs) _ _ (1, false, ⟨s, hs⟩) _
    (dsem_eq 1 false ⟨s, hs⟩ (by decide)) (amt_sa s hs)
    [] (fun _ h => by cases h) _) $$ [HO H1]
  · isplitr; · iexact HR
    isplitr; · iexact Hlev
    isplitl [HO]; · iexact HO
    iexact H1
  iintro ⟨HO, Hz1, Ha⟩
  iapply (wp_wait_cell B K (mSlot rmM s hs) (mSlot smM s hs) _ _ (2, false, ⟨s, hs⟩) _
    (dsem_eq 2 false ⟨s, hs⟩ (by decide)) (amt_sm s hs)
    [] (fun _ h => by cases h) _) $$ [HO H2]
  · isplitr; · iexact HR
    isplitr; · iexact Hlev
    isplitl [HO]; · iexact HO
    iexact H2
  iintro ⟨HO, Hz2, Hm⟩
  iapply HK
  isplitl [HO]; · iexact HO
  isplitl [Hz0 Hz1 Hz2]
  · isplitl [Hz0]; · iexact Hz0
    isplitl [Hz1]; · iexact Hz1
    iexact Hz2
  isplitl [Hq]; · iapply (Entails.of_eq (pay_q B s hs)) $$ Hq
  isplitl [Ha]; · iapply (Entails.of_eq (pay_sa B s hs)) $$ Ha
  iapply (Entails.of_eq (pay_sm B s hs)) $$ Hm

omit [FloatOps F] in
/-- A buffer at some contents, the contents named. -/
theorem some_ex (c : Dev nD) {s : Shape} (M : Memref sig .tc .vmem s .f32) :
    (some' c M : sProp 𝕄) ⊢ iprop(∃ X : Vec F s .f32, owns (c : Thread nD τ) M fullShare X) := .rfl

omit [FloatOps F] in
/-- The contents of a buffer under an equal name. -/
theorem owns_as (c : Dev nD) {s : Shape} (M : Memref sig .tc .vmem s .f32) (q : PosShare TreeShare)
    (X Y : Vec F s .f32) (h : X = Y) :
    (owns (c : Thread nD τ) M q X : sProp 𝕄) ⊢ owns (c : Thread nD τ) M q Y := by rw [h]

/-- Half of a query slot and the other half are some contents of the slot. -/
theorem halves_some (d : Nat) (hd : d < 4) (X : Vec F S256x1024 .f32) :
    (iprop(owns (c : Thread nD τ) (qSlot qM d hd) fullShare.left X
      ∗ owns (c : Thread nD τ) (qSlot qM d hd) fullShare.right X) : sProp 𝕄)
      ⊢ some' c (qSlot qM d hd) :=
  (owns_halves (c : Thread nD τ) (qSlot qM d hd) fullShare X).2.trans (some_intro c _ X)

/-! ## What a device is given, and what it returns -/

/-- Three of a kind. -/
def tri (f : Fin 3 → sProp (MT nD τ sig Unit (Elt F) ℕ UU ℕ)) : sProp 𝕄 :=
  iprop(f 0 ∗ f 1 ∗ f 2)

/-- The scratch buffers at some contents. -/
def scratch (c : Dev nD) : sProp 𝕄 :=
  iprop(some' c qM ∗ some' c pM ∗ some' c mM ∗ some' c saM ∗ some' c smM ∗ some' c raM
    ∗ some' c rmM)

/-- The ghost state a device starts from, without the names. -/
def linear (c : Dev nD) : sProp 𝕄 :=
  iprop(atPos ER (bar c) 0 ∅ 0 ∗ cred (tallyAt (bar c) () 2)
    ∗ dutyTok ER (bar (prv c)) 0 true ∗ dutyTok ER (bar (nxt c)) 0 false
    ∗ tri (fun w => tri fun j => snd c w j) ∗ tri (fun w => tri fun j => rcv c (w, true, j)))

/-- The semaphores at zero. -/
def zeros (c : Dev nD) : sProp 𝕄 :=
  tri fun w => iprop(tri (fun j => semVal (cel c (w, false, j)) 0)
    ∗ tri (fun j => semVal (cel c (w, true, j)) 0))

/-- The five arguments of a device. -/
def args (a0 : Memref sig .tc .vmem S256x1024 .f32) (a1 a2 : Memref sig .tc .vmem S1024x1024 .f32)
    (a3 a4 : Memref sig .tc .vmem S4096x1024 .f32) (c : Dev nD) : sProp 𝕄 :=
  iprop(owns (c : Thread nD τ) a0 fullShare (B.x c) ∗ owns (c : Thread nD τ) a1 fullShare (B.wq c)
    ∗ owns (c : Thread nD τ) a2 fullShare (B.wo c) ∗ owns (c : Thread nD τ) a3 fullShare (B.k c)
    ∗ owns (c : Thread nD τ) a4 fullShare (B.v c))

set_option maxHeartbeats 4000000 in
/-- The body of a device: from its arguments, its scratch buffers and its ghost state to the result
    and everything else back. -/
theorem wp_body (a0 : Memref sig .tc .vmem S256x1024 .f32)
    (a1 a2 : Memref sig .tc .vmem S1024x1024 .f32) (a3 a4 : Memref sig .tc .vmem S4096x1024 .f32)
    (a5 : Memref sig .tc .vmem S256x1024 .f32) :
    (iprop(records B K ∗ levAts L lv ∗ owing c (O₀ c) ∗ linear c ∗ scratch c
        ∗ args B a0 a1 a2 a3 a4 c ∗ some' c a5) : sProp 𝕄)
      ⊢ iprop((iprop(owing c (owed c []) ∗ semVal (bar c) 0 ∗ zeros c ∗ scratch c
            ∗ args B a0 a1 a2 a3 a4 c ∗ owns (c : Thread nD τ) a5 fullShare (outC B c)) -∗ Q ⟨⟩)
        -∗ wp frame (wpE defs 𝒱 (c : Thread nD τ) none) Set.univ
            (body a0 a1 a2 a3 a4 a5 qM pM mM saM smM raM rmM cc0_scratch7) Q) := by
  unfold linear scratch args tri
  rw [some_q, some_a, some_a, some_m, some_m]
  iintro ⟨#HR, #Hlev, HO, ⟨HatB, HcB, HtP, HtN, ⟨⟨Hs00, Hs01, Hs02⟩, ⟨Hs10, Hs11, Hs12⟩,
    ⟨Hs20, Hs21, Hs22⟩⟩, ⟨⟨Hr00, Hr01, Hr02⟩, ⟨Hr10, Hr11, Hr12⟩, ⟨Hr20, Hr21, Hr22⟩⟩⟩,
    ⟨⟨Hq0, Hq1, Hq2, Hq3⟩, Hp, Hm, ⟨Hsa0, Hsa1, Hsa2⟩, ⟨Hsm0, Hsm1, Hsm2⟩, ⟨Hra0, Hra1, Hra2⟩,
      ⟨Hrm0, Hrm1, Hrm2⟩⟩, ⟨Hx, Hwq, Hwo, Hk, Hv⟩, Ho⟩ HK
  unfold body
  rw [wp_deviceId]
  -- the meeting
  iapply (wp_meet B K _ _ (dev1_eq c) (dev2_eq c) _)
    $$ [HO HatB HcB HtP HtN Hq1 Hq2 Hq3 Hra0 Hra1 Hra2 Hrm0 Hrm1 Hrm2]
  · isplitr; · iexact HR
    isplitr; · iexact Hlev
    isplitl [HO]; · iexact HO
    isplitl [Hq1 Hq2 Hq3 Hra0 Hra1 Hra2 Hrm0 Hrm1 Hrm2]
    · unfold land
      isplitl [Hq1 Hq2 Hq3]
      · isplitl [Hq1]; · iexact Hq1
        isplitl [Hq2]; · iexact Hq2
        iexact Hq3
      isplitl [Hra0 Hra1 Hra2]
      · isplitl [Hra0]; · iexact Hra0
        isplitl [Hra1]; · iexact Hra1
        iexact Hra2
      isplitl [Hrm0]; · iexact Hrm0
      isplitl [Hrm1]; · iexact Hrm1
      iexact Hrm2
    isplitl [HtP]; · iexact HtP
    isplitl [HtN]; · iexact HtN
    isplitl [HatB]; · iexact HatB
    iexact HcB
  unfold land
  iintro ⟨HO, HzB, ⟨⟨Hq1, Hq2, Hq3⟩, ⟨Hra0, Hra1, Hra2⟩, ⟨Hrm0, Hrm1, Hrm2⟩⟩⟩
  -- the queries, sent around the ring
  ihave Hq0 := (some_ex c _) $$ Hq0
  icases Hq0 with ⟨%X0, Hq0⟩
  iapply (wp_project a0 a1 qM fullShare fullShare (B.x c) (B.wq c) X0 _)
    $$ [Hx Hwq Hq0]
  · isplitl [Hx]; · iexact Hx
    isplitl [Hwq]; · iexact Hwq
    iexact Hq0
  iintro ⟨Hx, Hwq, Hq0⟩
  ihave Hq0 := (owns_as c (qSlot qM 0 _) _
    (qVal (B.x c) (B.wq c)) (Qs B 0 c) rfl) $$ Hq0
  ihave Hq0 := (owns_halves (c : Thread nD τ) (qSlot qM 0 _) fullShare (Qs B 0 c)).1 $$ Hq0
  icases Hq0 with ⟨Hl0, Hk0⟩
  iapply (wp_sendQ B K 0 _ _ (dev3_eq c) (sends.drop 1) _)
    $$ [Hl0 Hq1 HO Hs00]
  · isplitr; · iexact HR
    isplitl [Hl0]; · iexact Hl0
    isplitl [Hq1]; · iexact Hq1
    isplitl [HO]; · iexact HO
    iexact Hs00
  iintro ⟨HO, Hw00⟩
  iapply (wp_recvQ B K 0 _ (sends.drop 1) (by decide) _)
    $$ [HO Hr00]
  · isplitr; · iexact HR
    isplitr; · iexact Hlev
    isplitl [HO]; · iexact HO
    iexact Hr00
  iintro ⟨HO, Hz001, Hq1⟩
  ihave Hq1 := (owns_halves (c : Thread nD τ) (qSlot qM 1 _) fullShare (Qs B 1 c)).1 $$ Hq1
  icases Hq1 with ⟨Hl1, Hk1⟩
  iapply (wp_sendQ B K 1 _ _ (dev4_eq c) (sends.drop 2) _)
    $$ [Hl1 Hq2 HO Hs01]
  · isplitr; · iexact HR
    isplitl [Hl1]; · iexact Hl1
    isplitl [Hq2]; · iexact Hq2
    isplitl [HO]; · iexact HO
    iexact Hs01
  iintro ⟨HO, Hw01⟩
  -- the first sums
  ihave Hsa0 := (some_ex c _) $$ Hsa0
  icases Hsa0 with ⟨%A0, Hsa0⟩
  ihave Hsm0 := (some_ex c _) $$ Hsm0
  icases Hsm0 with ⟨%M0, Hsm0⟩
  iapply (wp_part a3 a4 qM (aSlot saM 0 _) (mSlot smM 0 _) 1 _ fullShare.right
    fullShare fullShare (Qs B 1 c) (B.k c) (B.v c) A0 M0 _)
    $$ [Hk1 Hk Hv Hsa0 Hsm0]
  · isplitl [Hk1]; · iexact Hk1
    isplitl [Hk]; · iexact Hk
    isplitl [Hv]; · iexact Hv
    isplitl [Hsa0]; · iexact Hsa0
    iexact Hsm0
  iintro ⟨Hk1, Hk, Hv, Hsa0, Hsm0⟩
  ihave Hsa0 := (owns_as c (aSlot saM 0 _) _
    ((part (Qs B 1 c) (B.k c) (B.v c)).acc) ((C B 0 c).acc) rfl) $$ Hsa0
  ihave Hsm0 := (owns_as c (mSlot smM 0 _) _
    ((part (Qs B 1 c) (B.k c) (B.v c)).ml) ((C B 0 c).ml) rfl) $$ Hsm0
  iapply (wp_sendC B K 0 _ _ _ (dev5_eq c) (dev6_eq c) (sends.drop 4) _)
    $$ [Hsa0 Hsm0 Hra0 Hrm0 HO Hs10 Hs20]
  · isplitr; · iexact HR
    isplitl [Hsa0]; · iexact Hsa0
    isplitl [Hsm0]; · iexact Hsm0
    isplitl [Hra0]; · iexact Hra0
    isplitl [Hrm0]; · iexact Hrm0
    isplitl [HO]; · iexact HO
    isplitl [Hs10]; · iexact Hs10
    iexact Hs20
  iintro ⟨HO, Hw10, Hw20⟩
  iapply (wp_recvQ B K 1 _ (sends.drop 4) (by decide) _)
    $$ [HO Hr01]
  · isplitr; · iexact HR
    isplitr; · iexact Hlev
    isplitl [HO]; · iexact HO
    iexact Hr01
  iintro ⟨HO, Hz011, Hq2⟩
  ihave Hq2 := (owns_halves (c : Thread nD τ) (qSlot qM 2 _) fullShare (Qs B 2 c)).1 $$ Hq2
  icases Hq2 with ⟨Hl2, Hk2⟩
  iapply (wp_sendQ B K 2 _ _ (dev7_eq c) (sends.drop 5) _)
    $$ [Hl2 Hq3 HO Hs02]
  · isplitr; · iexact HR
    isplitl [Hl2]; · iexact Hl2
    isplitl [Hq3]; · iexact Hq3
    isplitl [HO]; · iexact HO
    iexact Hs02
  iintro ⟨HO, Hw02⟩
  -- the second sums
  ihave Hp := (some_ex c _) $$ Hp
  icases Hp with ⟨%Ap, Hp⟩
  ihave Hm := (some_ex c _) $$ Hm
  icases Hm with ⟨%Mp, Hm⟩
  iapply (wp_part a3 a4 qM pM mM 2 _ fullShare.right fullShare fullShare (Qs B 2 c) (B.k c) (B.v c)
    Ap Mp _)
    $$ [Hk2 Hk Hv Hp Hm]
  · isplitl [Hk2]; · iexact Hk2
    isplitl [Hk]; · iexact Hk
    isplitl [Hv]; · iexact Hv
    isplitl [Hp]; · iexact Hp
    iexact Hm
  iintro ⟨Hk2, Hk, Hv, Hp, Hm⟩
  iapply (wp_recvC B K 0 _ (sends.drop 5) (by decide) _)
    $$ [HO Hr10 Hr20]
  · isplitr; · iexact HR
    isplitr; · iexact Hlev
    isplitl [HO]; · iexact HO
    isplitl [Hr10]; · iexact Hr10
    iexact Hr20
  iintro ⟨HO, Hz101, Hz201, Hra0, Hrm0⟩
  ihave Hsa1 := (some_ex c _) $$ Hsa1
  icases Hsa1 with ⟨%A1, Hsa1⟩
  ihave Hsm1 := (some_ex c _) $$ Hsm1
  icases Hsm1 with ⟨%M1, Hsm1⟩
  iapply (wp_merge pM mM raM rmM (aSlot saM 1 _) (mSlot smM 1 _) 0 _
    (C B 0 (prv c)) (P B 2 c) A1 M1 _)
    $$ [Hra0 Hrm0 Hp Hm Hsa1 Hsm1]
  · isplitl [Hra0]; · iexact Hra0
    isplitl [Hrm0]; · iexact Hrm0
    isplitl [Hp]; · iexact Hp
    isplitl [Hm]; · iexact Hm
    isplitl [Hsa1]; · iexact Hsa1
    iexact Hsm1
  iintro ⟨Hra0, Hrm0, Hp, Hm, Hsa1, Hsm1⟩
  ihave Hsa1 := (owns_as c (aSlot saM 1 _) _
    ((comb (C B 0 (prv c)) (P B 2 c)).acc) ((C B 1 c).acc) rfl) $$ Hsa1
  ihave Hsm1 := (owns_as c (mSlot smM 1 _) _
    ((comb (C B 0 (prv c)) (P B 2 c)).ml) ((C B 1 c).ml) rfl) $$ Hsm1
  iapply (wp_sendC B K 1 _ _ _ (dev8_eq c) (dev9_eq c) (sends.drop 7) _)
    $$ [Hsa1 Hsm1 Hra1 Hrm1 HO Hs11 Hs21]
  · isplitr; · iexact HR
    isplitl [Hsa1]; · iexact Hsa1
    isplitl [Hsm1]; · iexact Hsm1
    isplitl [Hra1]; · iexact Hra1
    isplitl [Hrm1]; · iexact Hrm1
    isplitl [HO]; · iexact HO
    isplitl [Hs11]; · iexact Hs11
    iexact Hs21
  iintro ⟨HO, Hw11, Hw21⟩
  iapply (wp_recvQ B K 2 _ (sends.drop 7) (by decide) _)
    $$ [HO Hr02]
  · isplitr; · iexact HR
    isplitr; · iexact Hlev
    isplitl [HO]; · iexact HO
    iexact Hr02
  iintro ⟨HO, Hz021, Hq3⟩
  -- the third sums
  iapply (wp_part a3 a4 qM pM mM 3 _ fullShare fullShare fullShare (Qs B 3 c) (B.k c) (B.v c) _ _ _)
    $$ [Hq3 Hk Hv Hp Hm]
  · isplitl [Hq3]; · iexact Hq3
    isplitl [Hk]; · iexact Hk
    isplitl [Hv]; · iexact Hv
    isplitl [Hp]; · iexact Hp
    iexact Hm
  iintro ⟨Hq3, Hk, Hv, Hp, Hm⟩
  iapply (wp_recvC B K 1 _ (sends.drop 7) (by decide) _)
    $$ [HO Hr11 Hr21]
  · isplitr; · iexact HR
    isplitr; · iexact Hlev
    isplitl [HO]; · iexact HO
    isplitl [Hr11]; · iexact Hr11
    iexact Hr21
  iintro ⟨HO, Hz111, Hz211, Hra1, Hrm1⟩
  ihave Hsa2 := (some_ex c _) $$ Hsa2
  icases Hsa2 with ⟨%A2, Hsa2⟩
  ihave Hsm2 := (some_ex c _) $$ Hsm2
  icases Hsm2 with ⟨%M2, Hsm2⟩
  iapply (wp_merge pM mM raM rmM (aSlot saM 2 _) (mSlot smM 2 _) 1 _
    (C B 1 (prv c)) (P B 3 c) A2 M2 _)
    $$ [Hra1 Hrm1 Hp Hm Hsa2 Hsm2]
  · isplitl [Hra1]; · iexact Hra1
    isplitl [Hrm1]; · iexact Hrm1
    isplitl [Hp]; · iexact Hp
    isplitl [Hm]; · iexact Hm
    isplitl [Hsa2]; · iexact Hsa2
    iexact Hsm2
  iintro ⟨Hra1, Hrm1, Hp, Hm, Hsa2, Hsm2⟩
  ihave Hsa2 := (owns_as c (aSlot saM 2 _) _
    ((comb (C B 1 (prv c)) (P B 3 c)).acc) ((C B 2 c).acc) rfl) $$ Hsa2
  ihave Hsm2 := (owns_as c (mSlot smM 2 _) _
    ((comb (C B 1 (prv c)) (P B 3 c)).ml) ((C B 2 c).ml) rfl) $$ Hsm2
  iapply (wp_sendC B K 2 _ _ _ (dev10_eq c) (dev11_eq c) [] _)
    $$ [Hsa2 Hsm2 Hra2 Hrm2 HO Hs12 Hs22]
  · isplitr; · iexact HR
    isplitl [Hsa2]; · iexact Hsa2
    isplitl [Hsm2]; · iexact Hsm2
    isplitl [Hra2]; · iexact Hra2
    isplitl [Hrm2]; · iexact Hrm2
    isplitl [HO]; · iexact HO
    isplitl [Hs12]; · iexact Hs12
    iexact Hs22
  iintro ⟨HO, Hw12, Hw22⟩
  -- the last sums and the result
  iapply (wp_part a3 a4 qM pM mM 0 _ fullShare.right fullShare fullShare (Qs B 0 c) (B.k c) (B.v c)
    _ _ _)
    $$ [Hk0 Hk Hv Hp Hm]
  · isplitl [Hk0]; · iexact Hk0
    isplitl [Hk]; · iexact Hk
    isplitl [Hv]; · iexact Hv
    isplitl [Hp]; · iexact Hp
    iexact Hm
  iintro ⟨Hk0, Hk, Hv, Hp, Hm⟩
  iapply (wp_recvC B K 2 _ [] (fun _ h => by cases h) _)
    $$ [HO Hr12 Hr22]
  · isplitr; · iexact HR
    isplitr; · iexact Hlev
    isplitl [HO]; · iexact HO
    isplitl [Hr12]; · iexact Hr12
    iexact Hr22
  iintro ⟨HO, Hz121, Hz221, Hra2, Hrm2⟩
  iapply (wp_last pM mM raM rmM 2 _ (C B 2 (prv c)) (P B 0 c) _)
    $$ [Hra2 Hrm2 Hp Hm]
  · isplitl [Hra2]; · iexact Hra2
    isplitl [Hrm2]; · iexact Hrm2
    isplitl [Hp]; · iexact Hp
    iexact Hm
  iintro ⟨Hra2, Hrm2, Hp, Hm⟩
  ihave Hp := (owns_as c pM _
    (tileA (combN (C B 2 (prv c)) (P B 0 c))) (fin B c) rfl) $$ Hp
  ihave Ho := (some_ex c _) $$ Ho
  icases Ho with ⟨%Xo, Ho⟩
  iapply (wp_output a2 a5 pM fullShare (fin B c) (B.wo c) Xo _)
    $$ [Hwo Ho Hp]
  · isplitl [Hwo]; · iexact Hwo
    isplitl [Ho]; · iexact Ho
    iexact Hp
  iintro ⟨Hwo, Ho, Hp⟩
  -- what was sent comes back
  iapply (wp_drain B K 0 _ _)
    $$ [HO Hw00 Hw10 Hw20]
  · isplitr; · iexact HR
    isplitr; · iexact Hlev
    isplitl [HO]; · iexact HO
    isplitl [Hw00]; · iexact Hw00
    isplitl [Hw10]; · iexact Hw10
    iexact Hw20
  iintro ⟨HO, ⟨Hz000, Hz100, Hz200⟩, Hl0, Hsa0, Hsm0⟩
  iapply (wp_drain B K 1 _ _)
    $$ [HO Hw01 Hw11 Hw21]
  · isplitr; · iexact HR
    isplitr; · iexact Hlev
    isplitl [HO]; · iexact HO
    isplitl [Hw01]; · iexact Hw01
    isplitl [Hw11]; · iexact Hw11
    iexact Hw21
  iintro ⟨HO, ⟨Hz010, Hz110, Hz210⟩, Hl1, Hsa1, Hsm1⟩
  iapply (wp_drain B K 2 _ _)
    $$ [HO Hw02 Hw12 Hw22]
  · isplitr; · iexact HR
    isplitr; · iexact Hlev
    isplitl [HO]; · iexact HO
    isplitl [Hw02]; · iexact Hw02
    isplitl [Hw12]; · iexact Hw12
    iexact Hw22
  iintro ⟨HO, ⟨Hz020, Hz120, Hz220⟩, Hl2, Hsa2, Hsm2⟩
  rw [wp_ret]
  imodintro
  iapply HK
  isplitl [HO]; · iexact HO
  isplitl [HzB]; · iexact HzB
  isplitl [Hz000 Hz010 Hz020 Hz001 Hz011 Hz021 Hz100 Hz110 Hz120 Hz101 Hz111 Hz121 Hz200 Hz210 Hz220 Hz201 Hz211 Hz221]
  · unfold zeros tri
    isplitl [Hz000 Hz010 Hz020 Hz001 Hz011 Hz021]
    · isplitl [Hz000 Hz010 Hz020]
      · isplitl [Hz000]; · iexact Hz000
        isplitl [Hz010]; · iexact Hz010
        iexact Hz020
      isplitl [Hz001]; · iexact Hz001
      isplitl [Hz011]; · iexact Hz011
      iexact Hz021
    isplitl [Hz100 Hz110 Hz120 Hz101 Hz111 Hz121]
    · isplitl [Hz100 Hz110 Hz120]
      · isplitl [Hz100]; · iexact Hz100
        isplitl [Hz110]; · iexact Hz110
        iexact Hz120
      isplitl [Hz101]; · iexact Hz101
      isplitl [Hz111]; · iexact Hz111
      iexact Hz121
    isplitl [Hz200 Hz210 Hz220]
    · isplitl [Hz200]; · iexact Hz200
      isplitl [Hz210]; · iexact Hz210
      iexact Hz220
    isplitl [Hz201]; · iexact Hz201
    isplitl [Hz211]; · iexact Hz211
    iexact Hz221
  isplitl [Hl0 Hk0 Hl1 Hk1 Hl2 Hk2 Hq3 Hp Hm Hsa0 Hsa1 Hsa2 Hsm0 Hsm1 Hsm2 Hra0 Hra1 Hra2 Hrm0 Hrm1 Hrm2]
  · isplitl [Hl0 Hk0 Hl1 Hk1 Hl2 Hk2 Hq3]
    · isplitl [Hl0 Hk0]
      · iapply (halves_some 0 _ (Qs B 0 c))
        isplitl [Hl0]; · iexact Hl0
        iexact Hk0
      isplitl [Hl1 Hk1]
      · iapply (halves_some 1 _ (Qs B 1 c))
        isplitl [Hl1]; · iexact Hl1
        iexact Hk1
      isplitl [Hl2 Hk2]
      · iapply (halves_some 2 _ (Qs B 2 c))
        isplitl [Hl2]; · iexact Hl2
        iexact Hk2
      iapply (some_intro c (qSlot qM 3 _) _) $$ Hq3
    isplitl [Hp]; · iapply (some_intro c pM _) $$ Hp
    isplitl [Hm]; · iapply (some_intro c mM _) $$ Hm
    isplitl [Hsa0 Hsa1 Hsa2]
    · isplitl [Hsa0]; · iapply (some_intro c _ _) $$ Hsa0
      isplitl [Hsa1]; · iapply (some_intro c _ _) $$ Hsa1
      iapply (some_intro c _ _) $$ Hsa2
    isplitl [Hsm0 Hsm1 Hsm2]
    · isplitl [Hsm0]; · iapply (some_intro c _ _) $$ Hsm0
      isplitl [Hsm1]; · iapply (some_intro c _ _) $$ Hsm1
      iapply (some_intro c _ _) $$ Hsm2
    isplitl [Hra0 Hra1 Hra2]
    · isplitl [Hra0]; · iapply (some_intro c _ _) $$ Hra0
      isplitl [Hra1]; · iapply (some_intro c _ _) $$ Hra1
      iapply (some_intro c _ _) $$ Hra2
    isplitl [Hrm0]; · iapply (some_intro c _ _) $$ Hrm0
    isplitl [Hrm1]; · iapply (some_intro c _ _) $$ Hrm1
    iapply (some_intro c _ _) $$ Hrm2
  isplitl [Hx Hwq Hwo Hk Hv]
  · isplitl [Hx]; · iexact Hx
    isplitl [Hwq]; · iexact Hwq
    isplitl [Hwo]; · iexact Hwo
    isplitl [Hk]; · iexact Hk
    iexact Hv
  iexact Ho

end Cert.KernelIdeal.Ring
-- ==== Proof.KernelIdeal.Points.lean ====
/- The arrays as the kernel finds and leaves them, and what a device owes at launch. -/
module

public import proofs.«01_k».proof.Proof.KernelIdeal.Body
public import proofs.«01_k».proof.Proof.Gen.KernelIdeal.Launch
public import proofs.«01_k».proof.Proof.Gen.KernelIdeal.Points
public import Idealize.ShloMosaic.Lib.Pipeline.ValueKit

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The arguments as launched. -/
def blocks : Blocks F where
  x c := m ((c : Thread nD τ).loc main_arg0)
  wq c := m ((c : Thread nD τ).loc main_arg1)
  wo c := m ((c : Thread nD τ).loc main_arg2)
  k c := m ((c : Thread nD τ).loc main_arg3)
  v c := m ((c : Thread nD τ).loc main_arg4)

/-- What a device starts from. -/
def start (c : Dev nD) : sProp 𝕄 :=
  iprop((∃ K, records (blocks m) K ∗ linear c) ∗ levAts L lv)

/-- The proof data of the pipeline: one point, before which the device has its share of the ring and
    after which the scratch buffers and all semaphores at zero. -/
def dats (_ : Fin 1) (c : Dev nD) : Dat τ (Elt F) Unit ℕ UU ℕ cfg0 c where
  A w := m ((cfg0.win w).arr.view.loc (c : Thread nD τ))
  after w _ := match w with
    | ⟨0, _⟩ => (blocks m).x c
    | ⟨1, _⟩ => (blocks m).wq c
    | ⟨2, _⟩ => (blocks m).wo c
    | ⟨3, _⟩ => (blocks m).k c
    | ⟨4, _⟩ => (blocks m).v c
    | ⟨5, _⟩ => outC (blocks m) c
    | ⟨_ + 6, h⟩ => absurd h (Nat.not_lt.2 (Nat.le_add_left _ _))
  Φ t := match t with
    | ⟨0, _⟩ => iprop(start m c ∗ scratch c)
    | ⟨_ + 1, _⟩ => iprop(scratch c ∗ semVal (bar c) 0 ∗ zeros c)
  q _ := fullShare
  owed t := match t with
    | ⟨0, _⟩ => O₀ c
    | ⟨_ + 1, _⟩ => 0

abbrev 𝒱₀ : Variants := Variants.none

theorem before_0 (c : Dev nD) (t : Fin cfg0.N) (d) :
    (dats m 0 c).before (0 : Fin 6) t d = (blocks m).x c := by
  unfold Dat.before
  rw [if_pos (fetch0_0 t)]
  refine funext fun i => congrArg (m ((c : Thread nD τ).loc main_arg0)) (funext fun a => Fin.ext ?_)
  show ((((cfg0.win (0 : Fin 6)).rect t).emb _) a).val = _
  exact Window.rect_emb_val_of_index_zero (cfg0.win (0 : Fin 6)) t a rfl _

theorem before_1 (c : Dev nD) (t : Fin cfg0.N) (d) :
    (dats m 0 c).before (1 : Fin 6) t d = (blocks m).wq c := by
  unfold Dat.before
  rw [if_pos (fetch0_1 t)]
  refine funext fun i => congrArg (m ((c : Thread nD τ).loc main_arg1)) (funext fun a => Fin.ext ?_)
  show ((((cfg0.win (1 : Fin 6)).rect t).emb _) a).val = _
  exact Window.rect_emb_val_of_index_zero (cfg0.win (1 : Fin 6)) t a rfl _

theorem before_2 (c : Dev nD) (t : Fin cfg0.N) (d) :
    (dats m 0 c).before (2 : Fin 6) t d = (blocks m).wo c := by
  unfold Dat.before
  rw [if_pos (fetch0_2 t)]
  refine funext fun i => congrArg (m ((c : Thread nD τ).loc main_arg2)) (funext fun a => Fin.ext ?_)
  show ((((cfg0.win (2 : Fin 6)).rect t).emb _) a).val = _
  exact Window.rect_emb_val_of_index_zero (cfg0.win (2 : Fin 6)) t a rfl _

theorem before_3 (c : Dev nD) (t : Fin cfg0.N) (d) :
    (dats m 0 c).before (3 : Fin 6) t d = (blocks m).k c := by
  unfold Dat.before
  rw [if_pos (fetch0_3 t)]
  refine funext fun i => congrArg (m ((c : Thread nD τ).loc main_arg3)) (funext fun a => Fin.ext ?_)
  show ((((cfg0.win (3 : Fin 6)).rect t).emb _) a).val = _
  exact Window.rect_emb_val_of_index_zero (cfg0.win (3 : Fin 6)) t a rfl _

theorem before_4 (c : Dev nD) (t : Fin cfg0.N) (d) :
    (dats m 0 c).before (4 : Fin 6) t d = (blocks m).v c := by
  unfold Dat.before
  rw [if_pos (fetch0_4 t)]
  refine funext fun i => congrArg (m ((c : Thread nD τ).loc main_arg4)) (funext fun a => Fin.ext ?_)
  show ((((cfg0.win (4 : Fin 6)).rect t).emb _) a).val = _
  exact Window.rect_emb_val_of_index_zero (cfg0.win (4 : Fin 6)) t a rfl _

/-- The result array after the run. -/
theorem arrAt_5 (c : Dev nD) : (dats m 0 c).arrAt (5 : Fin 6) cfg0.N = outC (blocks m) c :=
  (dats m 0 c).arrAt_eq_of_after_last (5 : Fin 6) t0_0 (by decide +kernel) _ fun _ => rfl

end Cert.KernelIdeal.Ring

end
-- ==== Proof.KernelIdeal.Launch.lean ====
/- The launch: every device's start made from what the launch element deals, and the run of the program. -/
module

public import proofs.«01_k».proof.Proof.KernelIdeal.Points
public import Idealize.SL.ProofMode.BigOp

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The body at the one point -/

/-- A staging buffer at some of the contents the pipeline may hand it with. -/
theorem stage_some (c : Dev nD) {s : Shape} (M : Memref sig .tc .vmem s .f32)
    (f : Vec F s .f32 → Vec F s .f32) :
    (iprop(∃ d, owns (c : Thread nD τ) M fullShare (f d)) : sProp 𝕄) ⊢ some' c M := by
  iintro ⟨%d, H⟩
  iapply (some_intro c M (f d)) $$ H

/-- A staging buffer at contents the pipeline fixes. -/
theorem stage_as (c : Dev nD) {s : Shape} (M : Memref sig .tc .vmem s .f32)
    (f : Vec F s .f32 → Vec F s .f32) (X : Vec F s .f32) (h : ∀ d, f d = X) :
    (iprop(∃ d, owns (c : Thread nD τ) M fullShare (f d)) : sProp 𝕄)
      ⊢ owns (c : Thread nD τ) M fullShare X := by
  iintro ⟨%d, H⟩
  rw [h d]
  iexact H

abbrev g0 : Memref sig .tc .vmem S256x1024 .f32 := Memref.whole cc0_stg0_0
abbrev g1 : Memref sig .tc .vmem S1024x1024 .f32 := Memref.whole cc0_stg1_0
abbrev g2 : Memref sig .tc .vmem S1024x1024 .f32 := Memref.whole cc0_stg2_0
abbrev g3 : Memref sig .tc .vmem S4096x1024 .f32 := Memref.whole cc0_stg3_0
abbrev g4 : Memref sig .tc .vmem S4096x1024 .f32 := Memref.whole cc0_stg4_0
abbrev g5 : Memref sig .tc .vmem S256x1024 .f32 := Memref.whole cc0_stg5_0

/-- What the pipeline hands the body, -/
def bodyPre (c : Dev nD) : sProp 𝕄 :=
  iprop((start m c ∗ scratch c) ∗ (dats m 0 c).owesAt () t0_0.castSucc
    ∗ (∃ d, owns (c : Thread nD τ) g0 fullShare ((dats m 0 c).before (0 : Fin 6) t0_0 d))
    ∗ (∃ d, owns (c : Thread nD τ) g1 fullShare ((dats m 0 c).before (1 : Fin 6) t0_0 d))
    ∗ (∃ d, owns (c : Thread nD τ) g2 fullShare ((dats m 0 c).before (2 : Fin 6) t0_0 d))
    ∗ (∃ d, owns (c : Thread nD τ) g3 fullShare ((dats m 0 c).before (3 : Fin 6) t0_0 d))
    ∗ (∃ d, owns (c : Thread nD τ) g4 fullShare ((dats m 0 c).before (4 : Fin 6) t0_0 d))
    ∗ (∃ d, owns (c : Thread nD τ) g5 fullShare ((dats m 0 c).before (5 : Fin 6) t0_0 d)))

/-- and what it takes back. -/
def bodyPost (c : Dev nD) : sProp 𝕄 :=
  iprop((scratch c ∗ semVal (bar c) 0 ∗ zeros c) ∗ (dats m 0 c).owesAt () t0_0.succ
    ∗ owns (c : Thread nD τ) g0 fullShare ((blocks m).x c)
    ∗ owns (c : Thread nD τ) g1 fullShare ((blocks m).wq c)
    ∗ owns (c : Thread nD τ) g2 fullShare ((blocks m).wo c)
    ∗ owns (c : Thread nD τ) g3 fullShare ((blocks m).k c)
    ∗ owns (c : Thread nD τ) g4 fullShare ((blocks m).v c)
    ∗ owns (c : Thread nD τ) g5 fullShare (outC (blocks m) c))

theorem wp_point (c : Dev nD) :
    bodyPre m c ⊢ wp frame (wpE (defs₀ (F := F)) 𝒱₀ (c : Thread nD τ) none) Set.univ
      (body g0 g1 g2 g3 g4 g5 qM pM mM saM smM raM rmM cc0_scratch7) (fun _ => bodyPost m c) := by
  unfold bodyPre start Dat.owesAt Pipeline.owesWithin
  rw [show (dats m 0 c).owed t0_0.castSucc = O₀ c from rfl]
  iintro ⟨⟨⟨⟨%K, HR, Hlin⟩, Hlev⟩, Hscr⟩, ⟨%W, %hW, HO⟩, H0, H1, H2, H3, H4, H5⟩
  ihave H0 := (stage_as c g0 _ _ (before_0 m c t0_0)) $$ H0
  ihave H1 := (stage_as c g1 _ _ (before_1 m c t0_0)) $$ H1
  ihave H2 := (stage_as c g2 _ _ (before_2 m c t0_0)) $$ H2
  ihave H3 := (stage_as c g3 _ _ (before_3 m c t0_0)) $$ H3
  ihave H4 := (stage_as c g4 _ _ (before_4 m c t0_0)) $$ H4
  ihave H5 := (stage_some c g5 _) $$ H5
  iapply (wp_body (blocks m) K g0 g1 g2 g3 g4 g5) $$ [HR Hlin Hlev Hscr HO H0 H1 H2 H3 H4 H5]
  · isplitl [HR]; · iexact HR
    isplitl [Hlev]; · iexact Hlev
    isplitl [HO]; · unfold owing; iexists W; iexact HO
    isplitl [Hlin]; · iexact Hlin
    isplitl [Hscr]; · iexact Hscr
    isplitl [H0 H1 H2 H3 H4]
    · unfold args
      isplitl [H0]; · iexact H0
      isplitl [H1]; · iexact H1
      isplitl [H2]; · iexact H2
      isplitl [H3]; · iexact H3
      iexact H4
    iexact H5
  unfold owing args bodyPost Dat.owesAt Pipeline.owesWithin
  iintro ⟨⟨%W', HO⟩, Hb, Hz, Hscr, ⟨H0, H1, H2, H3, H4⟩, H5⟩
  isplitl [Hscr Hb Hz]
  · isplitl [Hscr]; · iexact Hscr
    isplitl [Hb] <;> iassumption
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact H5

set_option maxRecDepth 8000 in
/-- The body obligation of the pipeline. -/
theorem body_obligation (c : Dev nD) :
    BodyObligation (dats m 0 c) (defs₀ (F := F)) 𝒱₀ () Set.univ := fun t => by
  rw [fin_N0 t]
  have hp : (defs₀ (F := F)) .tc cfg0.body (cfg0.bodyArgs t0_0 (cfg0.slots t0_0))
      = body g0 g1 g2 g3 g4 g5 qM pM mM saM smM raM rmM cc0_scratch7 :=
    cc0_body_eq _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) cc0_scratch7
  rw [hp, bigSep_W0, bigSep_W0]
  have h := wp_point m c
  generalize body (F := F) g0 g1 g2 g3 g4 g5 qM pM mM saM smM raM rmM cc0_scratch7 = b at h ⊢
  clear hp
  have h2 : bodyPost m c ⊢ iprop((dats m 0 c).Φ t0_0.succ ∗ (dats m 0 c).owesAt () t0_0.succ
      ∗ owns (c : Thread nD τ) ((cfg0.win 0).stage (cfg0.slots t0_0 0)) fullShare ((dats m 0 c).after 0 t0_0)
      ∗ owns (c : Thread nD τ) ((cfg0.win 1).stage (cfg0.slots t0_0 1)) fullShare ((dats m 0 c).after 1 t0_0)
      ∗ owns (c : Thread nD τ) ((cfg0.win 2).stage (cfg0.slots t0_0 2)) fullShare ((dats m 0 c).after 2 t0_0)
      ∗ owns (c : Thread nD τ) ((cfg0.win 3).stage (cfg0.slots t0_0 3)) fullShare ((dats m 0 c).after 3 t0_0)
      ∗ owns (c : Thread nD τ) ((cfg0.win 4).stage (cfg0.slots t0_0 4)) fullShare ((dats m 0 c).after 4 t0_0)
      ∗ owns (c : Thread nD τ) ((cfg0.win 5).stage (cfg0.slots t0_0 5)) fullShare ((dats m 0 c).after 5 t0_0)) := .rfl
  have h1 : iprop((dats m 0 c).Φ t0_0.castSucc ∗ (dats m 0 c).owesAt () t0_0.castSucc
      ∗ (∃ d, owns (c : Thread nD τ) ((cfg0.win 0).stage (cfg0.slots t0_0 0)) fullShare ((dats m 0 c).before 0 t0_0 d))
      ∗ (∃ d, owns (c : Thread nD τ) ((cfg0.win 1).stage (cfg0.slots t0_0 1)) fullShare ((dats m 0 c).before 1 t0_0 d))
      ∗ (∃ d, owns (c : Thread nD τ) ((cfg0.win 2).stage (cfg0.slots t0_0 2)) fullShare ((dats m 0 c).before 2 t0_0 d))
      ∗ (∃ d, owns (c : Thread nD τ) ((cfg0.win 3).stage (cfg0.slots t0_0 3)) fullShare ((dats m 0 c).before 3 t0_0 d))
      ∗ (∃ d, owns (c : Thread nD τ) ((cfg0.win 4).stage (cfg0.slots t0_0 4)) fullShare ((dats m 0 c).before 4 t0_0 d))
      ∗ (∃ d, owns (c : Thread nD τ) ((cfg0.win 5).stage (cfg0.slots t0_0 5)) fullShare ((dats m 0 c).before 5 t0_0 d))) ⊢ bodyPre m c := .rfl
  have h3 := h1.trans (h.trans (wp_mono frame _ _ fun _ => h2))
  exact h3

end Cert.KernelIdeal.Ring

end
-- ==== Proof.KernelIdeal.Deal.lean ====
/- What the launch element deals each device, and how it is passed around the ring before the start. -/
module

public import proofs.«01_k».proof.Proof.KernelIdeal.Launch

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Conjunctions over the semaphores -/

/-- Which copy: of what, and which of the three. -/
abbrev WJ : Type := Fin 3 × Fin 3

omit [FloatOps F] in
theorem bigSep_tri (Φ : Fin 3 → sProp (MT nD τ sig Unit (Elt F) ℕ UU ℕ)) :
    bigSep Finset.univ Φ = tri Φ :=
  bigSep_univ_eq_bigSepL [0, 1, 2] (by decide) (by decide) Φ

omit [FloatOps F] in
theorem bigSep_bool (Φ : Bool → sProp (MT nD τ sig Unit (Elt F) ℕ UU ℕ)) :
    bigSep Finset.univ Φ = iprop(Φ false ∗ Φ true) :=
  bigSep_univ_eq_bigSepL [false, true] (by decide) (by decide) Φ

omit [FloatOps F] in
theorem bigSep_wj (Φ : Fin 3 → Fin 3 → sProp (MT nD τ sig Unit (Elt F) ℕ UU ℕ)) :
    (bigSep Finset.univ fun wj : WJ => Φ wj.1 wj.2) = tri fun w => tri (Φ w) := by
  rw [bigSep_univ_prod, bigSep_tri]
  exact congrArg tri (funext fun w => bigSep_tri _)

omit [FloatOps F] in
/-- Over the copies' semaphores, of each kind those of the sender and those of the receiver. -/
theorem bigSep_cell (Φ : Cell → sProp (MT nD τ sig Unit (Elt F) ℕ UU ℕ)) :
    bigSep Finset.univ Φ = tri fun w =>
      iprop((bigSep Finset.univ fun j => Φ (w, false, j))
        ∗ (bigSep Finset.univ fun j => Φ (w, true, j))) := by
  rw [bigSep_univ_prod, bigSep_tri]
  refine congrArg tri (funext fun w => ?_)
  rw [bigSep_univ_prod, bigSep_bool]

omit [FloatOps F] in
/-- The same by sender and receiver. -/
theorem bigSep_cell' (Φ : Cell → sProp (MT nD τ sig Unit (Elt F) ℕ UU ℕ)) :
    bigSep Finset.univ Φ = iprop((bigSep Finset.univ fun wj : WJ => Φ (wj.1, false, wj.2))
      ∗ (bigSep Finset.univ fun wj : WJ => Φ (wj.1, true, wj.2))) := by
  rw [bigSep_cell, ← bigSep_tri, bigSep_sep',
    bigSep_univ_prod (fun wj : WJ => Φ (wj.1, false, wj.2)),
    bigSep_univ_prod (fun wj : WJ => Φ (wj.1, true, wj.2))]

omit [FloatOps F] in
/-- Over all semaphores, the barrier's first. -/
theorem bigSep_ck (Φ : CK → sProp (MT nD τ sig Unit (Elt F) ℕ UU ℕ)) :
    bigSep Finset.univ Φ = iprop(Φ none ∗ bigSep Finset.univ fun p : Cell => Φ (some p)) := by
  rw [bigSep_univ_at Φ none,
    show (Finset.univ.erase none : Finset CK) = Finset.univ.map Function.Embedding.some by decide,
    bigSep_map]
  rfl

/-! ## The names are distinct -/

theorem csem_injective : Function.Injective csem := by
  rintro (_ | p) (_ | p') h
  · rfl
  · exact absurd h (by simp)
  · exact absurd h (by simp)
  · rw [← dmInv_dm p, ← dmInv_dm p']
    exact congrArg (fun q => some (dmInv q)) (SemLoc.dma.inj h)

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The semaphores of the ring. -/
def ringCells : Finset (GSem nD τ sig) := Finset.univ.map ⟨kcell, kcell_injective⟩

/-- The duties: the barrier's two, and one of each copy's semaphore. -/
abbrev tokOf (x : Dev nD × (Bool ⊕ Cell)) : GSem nD τ sig × ℕ × Bool :=
  match x.2 with
  | .inl b => (bar x.1, 0, b)
  | .inr p => (cel x.1 p, 0, false)

theorem tokOf_injective : Function.Injective tokOf := by
  rintro ⟨c, b | p⟩ ⟨c', b' | p'⟩ h
  · have h1 : c = c' := congrArg (fun x : GSem nD τ sig × ℕ × Bool => x.1.1.1) h
    have h2 : b = b' := congrArg (fun x : GSem nD τ sig × ℕ × Bool => x.2.2) h
    rw [h1, h2]
  · have := kcell_injective (congrArg Prod.fst h)
    exact absurd (congrArg Prod.snd this) (by simp)
  · have := kcell_injective (congrArg Prod.fst h)
    exact absurd (congrArg Prod.snd this) (by simp)
  · have := kcell_injective (congrArg Prod.fst h)
    rw [Prod.mk.injEq, Option.some.injEq] at this
    have h1 : c = c' := this.1
    rw [h1, this.2]

def ringToks : Finset (GSem nD τ sig × ℕ × Bool) := Finset.univ.map ⟨tokOf, tokOf_injective⟩

/-- The launch element: the pipeline's cells and tokens, and the ring's. -/
def u₀ : UU :=
  (initOf (Pipeline.cells cfgs cellOf_inj) (Pipeline.launchToks cfgs cellOf_inj),
    initOf ringCells ringToks)

/-! ## The deal -/

/-- The duty tokens of a device's own semaphores. -/
def toks (c : Dev nD) : sProp 𝕄 :=
  iprop((dutyTok ER (bar c) 0 false ∗ dutyTok ER (bar c) 0 true)
    ∗ (bigSep Finset.univ fun wj : WJ => dutyTok ER (cel c (wj.1, false, wj.2)) 0 false)
    ∗ (bigSep Finset.univ fun wj : WJ => dutyTok ER (cel c (wj.1, true, wj.2)) 0 false))

/-- The duty tokens a device pays with. -/
def payToks (c : Dev nD) : sProp 𝕄 :=
  iprop((dutyTok ER (bar (nxt c)) 0 false ∗ dutyTok ER (bar (prv c)) 0 true)
    ∗ (bigSep Finset.univ fun wj : WJ => dutyTok ER (cel c (wj.1, false, wj.2)) 0 false)
    ∗ (bigSep Finset.univ fun wj : WJ => dutyTok ER (cel (nxt c) (wj.1, true, wj.2)) 0 false))

/-- The places of a device. -/
def places (c : Dev nD) : sProp 𝕄 :=
  bigSep Finset.univ fun k : CK => atPos ER (kcell (c, k)) 0 ∅ 0

/-- What the launch element deals a device. -/
def G (c : Dev nD) : sProp 𝕄 :=
  iprop((bigSep Finset.univ fun k : CK => roundState ER (Rd (blocks m)) (kcell (c, k)) 0)
    ∗ (places c ∗ bigSep Finset.univ fun k : CK => reached ER (kcell (c, k)) 0) ∗ toks c)

/-- What a device has after the allocation of the invariants. -/
def G' (c : Dev nD) : sProp 𝕄 := iprop(∃ K, records (blocks m) K ∗ places c ∗ payToks c)

theorem fund_ring : BI.own (ER (initOf ringCells ringToks))
    ⊢ (|==> bigSep Finset.univ (G m) : sProp 𝕄) := by
  have hX (Φ : GSem nD τ sig → sProp (MT nD τ sig Unit (Elt F) ℕ UU ℕ)) : bigSep ringCells Φ
      = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => toks c := by
    unfold ringToks
    rw [bigSep_map, bigSep_univ_prod]
    refine bigSep_congr fun c _ => ?_
    unfold toks
    rw [bigSep_univ_sum, bigSep_bool, bigSep_cell']
    rfl
  iintro HX
  imod (Rounds.fund ER (Rd (blocks m)) ringCells ringToks) $$ HX with ⟨Hst, Hr, Hat, Htok⟩
  imodintro
  ihave Hst := (Entails.of_eq (hX fun g => roundState ER (Rd (blocks m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places
  simp only [bigSep_sep']
  isplitl [Hst]; · iexact Hst
  isplitl [Hat Hr]
  · isplitl [Hat] <;> iassumption
  iexact Htok

omit [FloatOps F] in
theorem unscopedSems0_bar (c : Dev nD) :
    (unscopedSems0 (Ix := Unit) (Name := ℕ) (U := UU) (Lvl := ℕ) (Val := Elt F) (τ := τ)
      (sig := sig) c : sProp 𝕄) = semVal (bar c) 0 := by
  unfold unscopedSems0
  rw [bigSep_eq_bigSepL_of_eq [SemLoc.reg barSem] (by decide) (by decide)]
  rfl

omit [FloatOps F] in
theorem ownSems0_zeros (c : Dev nD) :
    (Pipeline.ownSems0 (Ix := Unit) (Name := ℕ) (U := UU) (Lvl := ℕ) (Val := Elt F) (τ := τ)
      osem c : sProp 𝕄) = zeros c := by
  unfold Pipeline.ownSems0 zeros
  rw [bigSep_cell]
  refine congrArg tri (funext fun w => ?_)
  rw [bigSep_tri, bigSep_tri]

omit [FloatOps F] in
theorem sems0_eq (c : Dev nD) :
    (iprop(Pipeline.ownSems0 (Ix := Unit) (Name := ℕ) (U := UU) (Lvl := ℕ) (Val := Elt F) (τ := τ)
        osem c ∗ unscopedSems0 c) : sProp 𝕄)
      ⊢ bigSep Finset.univ fun k : CK => semVal (kcell (c, k)) 0 := by
  rw [unscopedSems0_bar, bigSep_ck]
  unfold Pipeline.ownSems0
  iintro ⟨Ho, Hb⟩
  isplitl [Hb]; · iexact Hb
  iexact Ho

/-- Each semaphore at zero and its first round make its invariant. -/
theorem core_alloc (c : Dev nD) :
    (iprop(Pipeline.ownSems0 (Ix := Unit) (Name := ℕ) (U := UU) (Lvl := ℕ) (Val := Elt F) (τ := τ)
        osem c ∗ unscopedSems0 c ∗ G m c) : sProp 𝕄)
      ⊢ |={Set.univ}=> iprop((bigSep Finset.univ fun k : CK =>
            iprop(∃ κ : ℕ, cellInv ER (Rd (blocks m)) κ (kcell (c, k))))
          ∗ (places c ∗ bigSep Finset.univ fun k : CK => reached ER (kcell (c, k)) 0) ∗ toks c) := by
  unfold G
  iintro ⟨Hos, Hus, Hst, Hat, Htok⟩
  ihave Hv := (sems0_eq (F := F) c) $$ [Hos Hus]
  · isplitl [Hos] <;> iassumption
  imod (show (iprop((bigSep Finset.univ fun k : CK => semVal (kcell (c, k)) 0)
        ∗ bigSep Finset.univ fun k : CK => roundState ER (Rd (blocks m)) (kcell (c, k)) 0) : sProp 𝕄)
      ⊢ |={Set.univ}=> bigSep Finset.univ fun k : CK =>
          iprop(∃ κ : ℕ, cellInv ER (Rd (blocks m)) κ (kcell (c, k))) from by
        rw [← bigSep_sep']
        exact (bigSep_mono fun k _ =>
          (Rounds.body_intro ER (Rd (blocks m)) (kcell (c, k))).trans inv_alloc).trans
            (bigSep_fupd _ _)) $$ [Hv Hst] with Hinv
  · isplitl [Hv] <;> iassumption
  imodintro
  isplitl [Hinv]; · iexact Hinv
  isplitl [Hat]; · iexact Hat
  iexact Htok

omit [FloatOps F] in
/-- The tokens passed around: those of a barrier to its two neighbours, those of a receiver to its
    left neighbour. -/
theorem toks_around : (bigSep Finset.univ fun c : Dev nD => (toks c : sProp 𝕄))
    ⊢ bigSep Finset.univ fun c : Dev nD => payToks c := by
  unfold toks payToks
  simp only [bigSep_sep']
  rw [bigSep_univ_equiv ring (fun c : Dev nD => (dutyTok ER (bar c) 0 false : sProp 𝕄)),
    bigSep_univ_equiv ring.symm (fun c : Dev nD => (dutyTok ER (bar c) 0 true : sProp 𝕄)),
    bigSep_univ_equiv ring (fun c : Dev nD =>
      (bigSep Finset.univ fun wj : WJ => dutyTok ER (cel c (wj.1, true, wj.2)) 0 false : sProp 𝕄))]
  exact .rfl

theorem regroup :
    (bigSep Finset.univ fun c : Dev nD => iprop((bigSep Finset.univ fun k : CK =>
            iprop(∃ κ : ℕ, cellInv ER (Rd (blocks m)) κ (kcell (c, k))))
          ∗ (places c ∗ bigSep Finset.univ fun k : CK => reached ER (kcell (c, k)) 0) ∗ toks c)
      : sProp 𝕄)
      ⊢ bigSep Finset.univ (G' m) := by
  simp only [bigSep_sep']
  rw [← bigSep_univ_prod (fun ck : Dev nD × CK =>
      iprop(∃ κ : ℕ, cellInv ER (Rd (blocks m)) κ (kcell ck))),
    ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) =>
    (cellInv ER (Rd (blocks m)) κ (kcell ck) : sProp 𝕄))) $$ HI
  icases HK with ⟨%K, #HI⟩
  ihave Htk := (toks_around (F := F)) $$ Htok
  iapply (bigSep_with_persistent (R := records (blocks m) K) (Φ := fun c : Dev nD =>
    iprop(places c ∗ payToks c)) fun c _ => show _ ⊢ G' m c from by
      unfold G'
      iintro ⟨HR, HP⟩
      iexists K
      isplitl [HR] <;> iassumption)
  isplitr
  · unfold records
    isplitl; · iexact HI
    iexact HR
  rw [bigSep_sep']
  isplitl [Hat] <;> iassumption

/-- All devices' semaphores at once. -/
theorem glob : (bigSep Finset.univ fun c => iprop(Pipeline.ownSems0 (Ix := Unit) (Name := ℕ)
      (U := UU) (Lvl := ℕ) (Val := Elt F) (τ := τ) osem c ∗ unscopedSems0 c ∗ G m c)
      : sProp 𝕄)
    ⊢ |={Set.univ}=> bigSep Finset.univ (G' m) :=
  ((bigSep_mono fun c _ => core_alloc m c).trans (bigSep_fupd _ _)).trans
    (BI.fupd_mono (regroup m))

end Cert.KernelIdeal.Ring

end
-- ==== Proof.KernelIdeal.Run.lean ====
/- The run of the program: every device ends with its result, its arguments and all semaphores at zero. -/
module

public import Idealize.ShloMosaic.Lib.Pipeline.CollectiveSegs
public import proofs.«01_k».proof.Proof.KernelIdeal.Deal

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

theorem bar_inj {a b : Dev nD} (h : bar a = bar b) : a = b :=
  congrArg (fun g : GSem nD τ sig => g.1.1) h

/-- What a device owes a copy's semaphore, by the list of copies it has to make. -/
theorem owed_cel (d c : Dev nD) (p : Cell) (l : List Cell) :
    owed d l (cel c p) () = if d = prv c then l.count p * amt p.1 else 0 := by
  induction l with
  | nil =>
    show 0 = _
    rw [List.count_nil, Nat.zero_mul, ite_self]
  | cons a l ih =>
    show (owed d l + tallyAt (cel (nxt d) a) () (amt a.1)) (cel c p) () = _
    rw [Pi.add_apply, Finsupp.add_apply, ih, tallyAt_apply]
    by_cases hd : d = prv c
    · rw [if_pos hd, if_pos hd, List.count_cons]
      by_cases ha : a = p
      · subst ha
        rw [hd, nxt_prv, if_pos ⟨rfl, rfl⟩, if_pos (beq_self_eq_true a), Nat.add_mul, Nat.one_mul]
      · rw [if_neg (fun h => ha (Option.some.inj (congrArg Prod.snd (kcell_injective h.1))).symm),
          if_neg (fun h => ha (eq_of_beq h)), Nat.add_zero, Nat.add_zero]
    · rw [if_neg hd, if_neg hd, if_neg (fun h => hd (by
        have := congrArg Prod.fst (kcell_injective h.1)
        have h' : c = nxt d := this
        rw [h', prv_nxt]))]

theorem owed_bar (d c : Dev nD) (l : List Cell) : owed d l (bar c) () = 0 := by
  by_contra h
  obtain ⟨p, -, e⟩ := owed_pos (Nat.pos_of_ne_zero h)
  exact absurd (congrArg Prod.snd (kcell_injective e)) (by simp)

theorem O₀_cel (d c : Dev nD) (p : Cell) :
    O₀ d (cel c p) () = if d = prv c then sends.count p * amt p.1 else 0 := by
  unfold O₀
  rw [Pi.add_apply, Finsupp.add_apply, Pi.add_apply, Finsupp.add_apply, owed_cel,
    tallyAt_ne_cell (fun h => absurd (congrArg Prod.snd (kcell_injective h)) (by simp)),
    tallyAt_ne_cell (fun h => absurd (congrArg Prod.snd (kcell_injective h)) (by simp)),
    Finsupp.zero_apply, Nat.add_zero, Nat.add_zero]

theorem O₀_bar (d c : Dev nD) :
    O₀ d (bar c) () = (if d = prv c then 1 else 0) + (if d = nxt c then 1 else 0) := by
  unfold O₀
  rw [Pi.add_apply, Finsupp.add_apply, Pi.add_apply, Finsupp.add_apply, owed_bar, Nat.zero_add,
    tallyAt_apply, tallyAt_apply]
  congr 1
  · by_cases h : d = prv c
    · rw [if_pos h, h, nxt_prv, if_pos ⟨rfl, rfl⟩]
    · rw [if_neg h, if_neg (fun e => h (by rw [bar_inj e.1, prv_nxt]))]
  · by_cases h : d = nxt c
    · rw [if_pos h, h, prv_nxt, if_pos ⟨rfl, rfl⟩]
    · rw [if_neg h, if_neg (fun e => h (by rw [bar_inj e.1, nxt_prv]))]

theorem launch_cel (c : Dev nD) (p : Cell) (hp : sends.count p = 1) :
    tallyOn (cel c p) (launchCredit (Pipeline.owing O₀) 0 (cel c p))
      = (tallyAt (cel c p) () (amt p.1) : CellTallies nD τ sig Unit) := by
  unfold tallyAt
  refine congrArg _ (Finsupp.ext fun u => ?_)
  cases u
  rw [Pipeline.launchCredit_owing, Finsupp.single_eq_same,
    Finset.sum_congr rfl fun d _ => O₀_cel d c p, Finset.sum_ite_eq' Finset.univ (prv c),
    if_pos (Finset.mem_univ _), hp, Nat.one_mul]

theorem launch_bar (c : Dev nD) :
    tallyOn (bar c) (launchCredit (Pipeline.owing O₀) 0 (bar c))
      = (tallyAt (bar c) () 2 : CellTallies nD τ sig Unit) := by
  unfold tallyAt
  refine congrArg _ (Finsupp.ext fun u => ?_)
  cases u
  rw [Pipeline.launchCredit_owing, Finsupp.single_eq_same,
    Finset.sum_congr rfl fun d _ => O₀_bar d c, Finset.sum_add_distrib,
    Finset.sum_ite_eq' Finset.univ (prv c) fun _ => 1,
    Finset.sum_ite_eq' Finset.univ (nxt c) fun _ => 1,
    if_pos (Finset.mem_univ _), if_pos (Finset.mem_univ _)]

theorem count_sends : ∀ w j : Fin 3, sends.count (w, true, j) = 1 := by decide

omit [FloatOps F] in
/-- The credit a device is launched with: its barrier's and that of all it receives. -/
theorem creds (c : Dev nD) : (Pipeline.launchCred O₀ c : sProp 𝕄)
    ⊢ iprop(cred (tallyAt (bar c) () 2)
      ∗ bigSep Finset.univ fun wj : WJ =>
          cred (tallyAt (cel c (wj.1, true, wj.2)) () (amt wj.1))) := by
  unfold Pipeline.launchCred
  refine (bigSep_subset (Finset.subset_univ (Finset.univ.map ⟨csem, csem_injective⟩))).trans ?_
  rw [bigSep_map, bigSep_ck, bigSep_cell']
  exact sep_mono (Entails.of_eq (congrArg cred (launch_bar c)))
    (sep_elim_right.trans (bigSep_mono fun wj _ =>
      Entails.of_eq (congrArg cred (launch_cel c _ (count_sends wj.1 wj.2)))))

/-! ## The start and the end of a device -/

omit [FloatOps F] in
theorem linear_intro (c : Dev nD) :
    (iprop(places c ∗ payToks c ∗ cred (tallyAt (bar c) () 2)
      ∗ bigSep Finset.univ fun wj : WJ =>
          cred (tallyAt (cel c (wj.1, true, wj.2)) () (amt wj.1))) : sProp 𝕄) ⊢ linear c := by
  unfold places payToks linear
  rw [← bigSep_wj (fun w j => snd c w j), ← bigSep_wj (fun w j => rcv c (w, true, j))]
  unfold snd rcv
  rw [bigSep_ck, bigSep_cell']
  simp only [bigSep_sep']
  iintro ⟨⟨Hab, Has, Har⟩, ⟨⟨HtN, HtP⟩, Hts, Htr⟩, Hcb, Hcr⟩
  isplitl [Hab]; · iexact Hab
  isplitl [Hcb]; · iexact Hcb
  isplitl [HtP]; · iexact HtP
  isplitl [HtN]; · iexact HtN
  isplitl [Hts Htr Has]
  · isplitl [Hts]; · iexact Hts
    isplitl [Htr]; · iexact Htr
    iexact Has
  isplitl [Har]; · iexact Har
  iexact Hcr

theorem start_intro (c : Dev nD) :
    iprop(Pipeline.unscopedRestP Pipeline.Prefetch.none cfg0.spec c
          (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, ⟨%K, HR, Hpl, Htk⟩⟩
  ihave Hc := (creds (F := F) c) $$ Hcr
  icases Hc with ⟨H1, HN⟩
  imodintro
  unfold start
  isplitl
  · isplitl [HR Hpl Htk H1 HN]
    · iexists K
      isplitl [HR]; · iexact HR
      iapply (linear_intro (F := F) c)
      isplitl [Hpl]; · iexact Hpl
      isplitl [Htk]; · iexact Htk
      isplitl [H1] <;> iassumption
    iexact Hlev
  · iempintro

theorem scratch_eq (c : Dev nD) :
    (Pipeline.scopedRest (Ix := Unit) (Name := ℕ) (U := UU) (Lvl := ℕ) (Val := Elt F) spec0 c
      : sProp 𝕄) = scratch c := by
  rw [scopedRest0_eq]
  unfold scratch some'
  simp only [owns_whole]
  rfl

theorem phi0_intro (c : Dev nD) :
    iprop(start m c ∗ Pipeline.prefHeld Pipeline.Prefetch.none c (fun _ => fullShare.right)
        (fun k => k.elim0) ∗ Pipeline.scopedRest cfg0.spec c)
      ⊢ (dats m 0 c).Φ 0 := by
  rw [show (dats m 0 c).Φ 0 = iprop(start m c ∗ scratch c) from rfl]
  iintro ⟨Hs, -, Hr⟩
  isplitl [Hs]; · iexact Hs
  iapply (Entails.of_eq (scratch_eq (F := F) c)) $$ Hr

theorem phi1_exit (c : Dev nD) :
    (dats m 0 c).Φ (Fin.last cfg0.N)
      ⊢ iprop(unscopedSems0 c ∗ Pipeline.ownSems0 osem c ∗ Pipeline.scopedRest cfg0.spec c) := by
  rw [show (dats m 0 c).Φ (Fin.last cfg0.N)
      = iprop(scratch c ∗ semVal (bar c) 0 ∗ zeros c) from rfl,
    ownSems0_zeros, unscopedSems0_bar]
  iintro ⟨Hr, Hb, Hz⟩
  isplitl [Hb]; · iexact Hb
  isplitl [Hz]; · iexact Hz
  iapply (Entails.of_eq (scratch_eq (F := F) c).symm) $$ Hr

theorem waits (c : Dev nD) :
    (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem ownSemFacts : Pipeline.OwnSemFacts cfg0.spec osem := by decide

theorem share_eq (c : Dev nD) (w : Fin cfg0.W) : (dats m 0 c).share w = fullShare := by
  unfold Dat.share
  split <;> rfl

/-! ## The run -/

set_option maxRecDepth 60000 in
/-- Every weakly fair execution ends, with each window's array as the proof data have it and every
    semaphore at zero. -/
theorem run_arrays : θ_run defs (onTc (τ := τ) (main (F := F))) ⟨m, fun _ => 0, ρ⟩
    (fun r => (∀ c : Dev nD, ∀ w : Fin cfg0.W,
        r.2.mem ((cfg0.win w).arr.view.loc (c : Thread nD τ)) = (dats m 0 c).arrAt w cfg0.N)
      ∧ r.2.sem = fun _ => 0) :=
  Pipeline.θ_run_region_owing_glob_pf (fun p => (cfgs p).toPCfg) (fun p => (cfgs p).toPCfg_adm)
    (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _)
    (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false →
      s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Every execution ends with each device's result as computed, its arguments as they were and every
    semaphore at zero. -/
theorem run_main : θ_run defs (onTc (τ := τ) (main (F := F))) ⟨m, fun _ => 0, ρ⟩
    (fun r => (∀ c : Dev nD,
        r.2.mem ((c : Thread nD τ).loc main_v1) = outC (blocks m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
      ∧ r.2.sem = fun _ => 0) :=
  (θ_run defs _ _).mono (fun _ h => ⟨fun c =>
    ⟨(h.1 c (5 : Fin 6)).trans (arrAt_5 m c),
      (h.1 c (0 : Fin 6)).trans ((dats m 0 c).arrAt_in (0 : Fin 6) rfl _),
      (h.1 c (1 : Fin 6)).trans ((dats m 0 c).arrAt_in (1 : Fin 6) rfl _),
      (h.1 c (2 : Fin 6)).trans ((dats m 0 c).arrAt_in (2 : Fin 6) rfl _),
      (h.1 c (3 : Fin 6)).trans ((dats m 0 c).arrAt_in (3 : Fin 6) rfl _),
      (h.1 c (4 : Fin 6)).trans ((dats m 0 c).arrAt_in (4 : Fin 6) rfl _)⟩, h.2⟩) (run_arrays m ρ)

end Cert.KernelIdeal.Ring

end
-- ==== Proof.KernelIdeal.Read.lean ====
/- What the kernel's body computes over the extended reals, element by element. -/
module

public import proofs.«01_k».proof.Proof.KernelIdeal.Cont
public import Idealize.ShloMosaic.Lib.Pointwise
public import Idealize.ShloMosaic.Lib.Pointwise.IndexBridge

@[expose] public section

set_option maxRecDepth 16384

noncomputable section

namespace Cert.KernelIdeal.Ring

open Idealize.ShloMosaic
open Cert.KernelIdeal Cert.KernelIdeal.Gen

/-- A query row times the weights, scaled. -/
theorem qVal_apply (x : Vec Ideal S256x1024 .f32) (w : Vec Ideal S1024x1024 .f32) (i : Fin 256)
    (n : Fin 1024) : qVal x w (ix2 i n)
      = (∑ a : Fin 1024, x (ix2 i a) * w (ix2 a n)) * Ideal.ofBits .f32 0x3DB504F3#32 := by
  pointwise [qVal]

/-- A score. -/
theorem sVal_apply (q : Vec Ideal S1x256x128 .f32) (k : Vec Ideal S4096x128 .f32) (j : Fin 4096)
    (i : Fin 256) : sVal q k (ix2 j i) = ∑ d : Fin 128, k (ix2 j d) * q (ix3 0 i d) := by
  pointwise [sVal]

/-- The pattern of the least float is the least extended real. -/
theorem ofBits_bot : Ideal.ofBits .f32 0xFF800000#32 = ⊥ := by
  simp [Ideal.ofBits, Ideal.ieee]

/-- The largest score of a query. -/
theorem mVal_apply (q : Vec Ideal S1x256x128 .f32) (k : Vec Ideal S4096x128 .f32) (i : Fin 256) :
    mVal q k (ix2 0 i) = Finset.univ.sup fun j : Fin 4096 => sVal q k (ix2 j i) := by
  pointwise [mVal]
  rw [show Ideal.ofBits .f32 4286578688#32 = ⊥ from ofBits_bot]
  rfl

/-- An exponential. -/
theorem pVal_apply (q : Vec Ideal S1x256x128 .f32) (k : Vec Ideal S4096x128 .f32) (j : Fin 4096)
    (i : Fin 256) : pVal q k (ix2 j i) = Ideal.exp (sVal q k (ix2 j i) - mVal q k (ix2 0 i)) := by
  pointwise [pVal]

/-- The sum of a query's exponentials. -/
theorem lVal_apply (q : Vec Ideal S1x256x128 .f32) (k : Vec Ideal S4096x128 .f32) (i : Fin 256) :
    lVal q k (ix2 0 i) = ∑ j : Fin 4096, pVal q k (ix2 j i) := by
  pointwise [lVal]

/-- A weighted value. -/
theorem accVal_apply (q : Vec Ideal S1x256x128 .f32) (k v : Vec Ideal S4096x128 .f32) (d : Fin 128)
    (i : Fin 256) :
    accVal q k v (ix2 d i) = ∑ j : Fin 4096, v (ix2 j d) * pVal q k (ix2 j i) := by
  pointwise [accVal]

theorem rowOut_apply (v : FVec Ideal S1x256 .f32) (i : Fin 256) :
    rowOut v (ix3 0 0 i) = v (ix2 0 i) := by
  pointwise [rowOut]

theorem rowP_apply (v : Vec Ideal S1x1x256 .f32) (i : Fin 256) :
    rowP v (ix2 0 i) = v (ix3 0 0 i) := by
  pointwise [rowP]

theorem rowIn_apply (v : Vec Ideal S1x1x1x256 .f32) (i : Fin 256) :
    rowIn v (ix2 0 i) = v (ix4 0 0 0 i) := by
  pointwise [rowIn]

section Merge

variable (vmi vli : Vec Ideal S1x1x1x256 .f32) (vmp vlp : Vec Ideal S1x1x256 .f32)
  (vai : Vec Ideal S1x128x256 .f32) (vap : Vec Ideal S128x256 .f32) (d : Fin 128) (i : Fin 256)

theorem mergeM_apply : mergeM vmi vmp (ix2 0 i) = max (vmi (ix4 0 0 0 i)) (vmp (ix3 0 0 i)) := by
  pointwise [mergeM, rowIn, rowP]

theorem facIn_apply : facIn vmi vmp (ix2 0 i)
    = Ideal.exp (vmi (ix4 0 0 0 i) - max (vmi (ix4 0 0 0 i)) (vmp (ix3 0 0 i))) := by
  pointwise [facIn, mergeM, rowIn, rowP]

theorem facP_apply : facP vmi vmp (ix2 0 i)
    = Ideal.exp (vmp (ix3 0 0 i) - max (vmi (ix4 0 0 0 i)) (vmp (ix3 0 0 i))) := by
  pointwise [facP, mergeM, rowIn, rowP]

theorem mergeL_apply : mergeL vmi vli vmp vlp (ix2 0 i)
    = vli (ix4 0 0 0 i) * facIn vmi vmp (ix2 0 i) + vlp (ix3 0 0 i) * facP vmi vmp (ix2 0 i) := by
  pointwise [mergeL, rowIn, rowP]

theorem mergeA_apply : mergeA vmi vmp vai vap (ix2 d i)
    = vai (ix3 0 d i) * facIn vmi vmp (ix2 0 i) + vap (ix2 d i) * facP vmi vmp (ix2 0 i) := by
  pointwise [mergeA]

theorem mergeN_apply : mergeN vmi vli vmp vlp vai vap (ix2 d i)
    = Ideal.div (mergeA vmi vmp vai vap (ix2 d i)) (mergeL vmi vli vmp vlp (ix2 0 i)) := by
  pointwise [mergeN]

end Merge

/-- An element of the result. -/
theorem outVal_apply (va : Vec Ideal S1024x256 .f32) (w : Vec Ideal S1024x1024 .f32) (i : Fin 256)
    (n : Fin 1024) :
    outVal va w (ix2 i n) = ∑ a : Fin 1024, va (ix2 a i) * w (ix2 a n) := by
  pointwise [outVal]

/-! ## Places of a head -/

/-- Column `d` of head `h`. -/
def col (h : Fin 8) (d : Fin 128) : Fin 1024 := ⟨128 * h.val + d.val, by omega⟩

theorem emb_rA (h : Nat) (hh : h < 8) (d : Fin 128) (i : Fin 256) :
    (rA h hh).emb (ix2 d i) = ix2 (col ⟨h, hh⟩ d) i := by
  funext a
  refine Fin.ext ?_
  match a with
  | ⟨0, _⟩ => show 128 * h + 1 * d.val = 128 * h + d.val; omega
  | ⟨1, _⟩ => show 0 + 1 * i.val = i.val; omega

theorem emb_rK (h : Nat) (hh : h < 8) (j : Fin 4096) (d : Fin 128) :
    (rK h hh).emb (ix2 j d) = ix2 j (col ⟨h, hh⟩ d) := by
  funext a
  refine Fin.ext ?_
  match a with
  | ⟨0, _⟩ => show 0 + 1 * j.val = j.val; omega
  | ⟨1, _⟩ => show 128 * h + 1 * d.val = 128 * h + d.val; omega

theorem emb_rM (r h : Nat) (hr : r < 2) (hh : h < 8) (i : Fin 256) :
    (rM r h hr hh).emb (ix3 0 0 i) = ix3 ⟨r, hr⟩ ⟨h, hh⟩ i := by
  funext a
  refine Fin.ext ?_
  match a with
  | ⟨0, _⟩ => show r + 1 * 0 = r; omega
  | ⟨1, _⟩ => show h + 1 * 0 = h; omega
  | ⟨2, _⟩ => show 0 + 1 * i.val = i.val; omega

theorem tileA_apply (w : (h : Nat) → h < 8 → Vec Ideal S128x256 .f32) (h : Fin 8) (d : Fin 128)
    (i : Fin 256) : tileA w (ix2 (col h d) i) = w h.val h.isLt (ix2 d i) := by
  rw [← tileA_emb w h.val h.isLt (ix2 d i), emb_rA]

theorem tileM_apply0 (wm wl : (h : Nat) → h < 8 → Vec Ideal S1x1x256 .f32) (h : Fin 8)
    (i : Fin 256) : tileM wm wl (ix3 0 h i) = wm h.val h.isLt (ix3 0 0 i) := by
  rw [← tileM_emb0 wm wl h.val h.isLt (ix3 0 0 i), emb_rM]
  rfl

theorem tileM_apply1 (wm wl : (h : Nat) → h < 8 → Vec Ideal S1x1x256 .f32) (h : Fin 8)
    (i : Fin 256) : tileM wm wl (ix3 1 h i) = wl h.val h.isLt (ix3 0 0 i) := by
  rw [← tileM_emb1 wm wl h.val h.isLt (ix3 0 0 i), emb_rM]
  rfl

/-! ## The slots -/

/-- A score of head `h`. -/
def score (q : Vec Ideal S256x1024 .f32) (k : Vec Ideal S4096x1024 .f32) (h : Fin 8) (i : Fin 256)
    (j : Fin 4096) : EReal := ∑ d : Fin 128, k (ix2 j (col h d)) * q (ix2 i (col h d))

section Part

variable (q : Vec Ideal S256x1024 .f32) (k v : Vec Ideal S4096x1024 .f32) (h : Fin 8) (d : Fin 128)
  (i : Fin 256) (j : Fin 4096)

theorem kHead_apply : kHead k h.val h.isLt (ix2 j d) = k (ix2 j (col h d)) := by
  unfold kHead
  rw [emb_rK]

theorem qHead_apply : qHead q h.val h.isLt (ix3 0 i d) = q (ix2 i (col h d)) := by
  rw [ix2_eq_valueIdx]
  rfl

theorem head_sVal : sVal (qHead q h.val h.isLt) (kHead k h.val h.isLt) (ix2 j i)
    = score q k h i j := by
  rw [sVal_apply]
  exact Finset.sum_congr rfl fun d _ => by rw [kHead_apply, qHead_apply]

theorem head_mVal : mVal (qHead q h.val h.isLt) (kHead k h.val h.isLt) (ix2 0 i)
    = Finset.univ.sup (score q k h i) := by
  rw [mVal_apply]
  exact Finset.sup_congr rfl fun j _ => head_sVal q k h i j

theorem head_pVal : pVal (qHead q h.val h.isLt) (kHead k h.val h.isLt) (ix2 j i)
    = Ideal.exp (score q k h i j - Finset.univ.sup (score q k h i)) := by
  rw [pVal_apply, head_mVal, head_sVal]

theorem part_m : (part q k v).ml (ix3 0 h i) = Finset.univ.sup (score q k h i) := by
  unfold part
  dsimp only
  rw [tileM_apply0]
  unfold partM
  rw [rowOut_apply, head_mVal]

theorem part_l : (part q k v).ml (ix3 1 h i)
    = ∑ j, Ideal.exp (score q k h i j - Finset.univ.sup (score q k h i)) := by
  unfold part
  dsimp only
  rw [tileM_apply1]
  unfold partL
  rw [rowOut_apply, lVal_apply]
  exact Finset.sum_congr rfl fun j _ => head_pVal q k h i j

theorem part_a : (part q k v).acc (ix2 (col h d) i)
    = ∑ j, v (ix2 j (col h d)) * Ideal.exp (score q k h i j - Finset.univ.sup (score q k h i)) := by
  unfold part
  dsimp only
  rw [tileA_apply]
  unfold partA
  rw [accVal_apply]
  exact Finset.sum_congr rfl fun j _ => by rw [kHead_apply, head_pVal]

end Part

section Comb

variable (R P : Slot Ideal) (h : Fin 8) (d : Fin 128) (i : Fin 256)

theorem mHead0 : mHead P.ml 0 h.val (by decide) h.isLt (ix3 0 0 i) = P.ml (ix3 0 h i) := by
  unfold mHead
  rw [emb_rM]
  rfl

theorem mHead1 : mHead P.ml 1 h.val (by decide) h.isLt (ix3 0 0 i) = P.ml (ix3 1 h i) := by
  unfold mHead
  rw [emb_rM]
  rfl

theorem mHeadIn0 : mHeadIn R.ml 0 h.val (by decide) h.isLt (ix4 0 0 0 i) = R.ml (ix3 0 h i) := by
  rw [ix3_eq_valueIdx]
  rfl

theorem mHeadIn1 : mHeadIn R.ml 1 h.val (by decide) h.isLt (ix4 0 0 0 i) = R.ml (ix3 1 h i) := by
  rw [ix3_eq_valueIdx]
  rfl

theorem aHead_apply : aHead P.acc h.val h.isLt (ix2 d i) = P.acc (ix2 (col h d) i) := by
  unfold aHead
  rw [emb_rA]

theorem aHeadIn_apply : aHeadIn R.acc h.val h.isLt (ix3 0 d i) = R.acc (ix2 (col h d) i) := by
  rw [ix2_eq_valueIdx]
  rfl

/-- The merged largest score, -/
def mrgM : EReal := max (R.ml (ix3 0 h i)) (P.ml (ix3 0 h i))
/-- the merged sum of exponentials, -/
def mrgL : EReal := R.ml (ix3 1 h i) * Ideal.exp (R.ml (ix3 0 h i) - mrgM R P h i)
  + P.ml (ix3 1 h i) * Ideal.exp (P.ml (ix3 0 h i) - mrgM R P h i)
/-- the merged weighted values. -/
def mrgA : EReal := R.acc (ix2 (col h d) i) * Ideal.exp (R.ml (ix3 0 h i) - mrgM R P h i)
  + P.acc (ix2 (col h d) i) * Ideal.exp (P.ml (ix3 0 h i) - mrgM R P h i)

theorem comb_m : (comb R P).ml (ix3 0 h i) = mrgM R P h i := by
  unfold comb
  dsimp only
  rw [tileM_apply0]
  unfold combM mrgM
  rw [rowOut_apply, mergeM_apply, mHeadIn0, mHead0]

theorem merge_l : mergeL (mHeadIn R.ml 0 h.val (by decide) h.isLt)
      (mHeadIn R.ml 1 h.val (by decide) h.isLt) (mHead P.ml 0 h.val (by decide) h.isLt)
      (mHead P.ml 1 h.val (by decide) h.isLt) (ix2 0 i) = mrgL R P h i := by
  unfold mrgL mrgM
  rw [mergeL_apply, facIn_apply, facP_apply, mHeadIn0, mHeadIn1, mHead0, mHead1]

theorem merge_a : mergeA (mHeadIn R.ml 0 h.val (by decide) h.isLt)
      (mHead P.ml 0 h.val (by decide) h.isLt) (aHeadIn R.acc h.val h.isLt)
      (aHead P.acc h.val h.isLt) (ix2 d i) = mrgA R P h d i := by
  unfold mrgA mrgM
  rw [mergeA_apply, facIn_apply, facP_apply, mHeadIn0, mHead0, aHeadIn_apply, aHead_apply]

theorem comb_l : (comb R P).ml (ix3 1 h i) = mrgL R P h i := by
  unfold comb
  dsimp only
  rw [tileM_apply1]
  unfold combL
  rw [rowOut_apply, merge_l]

theorem cast_same (X : FVec Ideal S128x256 .f32) :
    shapeCast S128x256 X shapeCasts_S128x256_S128x256 (ix2 d i) = X (ix2 d i) := by
  pointwise

theorem comb_a : (comb R P).acc (ix2 (col h d) i) = mrgA R P h d i := by
  unfold comb
  dsimp only
  rw [tileA_apply]
  unfold combA
  rw [cast_same, merge_a]

theorem combN_apply : tileA (combN R P) (ix2 (col h d) i)
    = Ideal.div (mrgA R P h d i) (mrgL R P h i) := by
  rw [tileA_apply]
  unfold combN
  rw [cast_same, mergeN_apply, merge_a, merge_l]

end Comb

end Cert.KernelIdeal.Ring
-- ==== Proof.Softmax.lean ====
/- Softmax over the extended reals, the keys cut into parts: the largest score, the sum of the exponentials and the
   weighted values of two parts merge into those of their union. -/
module

public import Idealize.ShloMosaic.PureOps.Ideal
public import Mathlib.Data.EReal.Operations
public import Mathlib.Data.Finset.Lattice.Fold

@[expose] public section

noncomputable section

namespace Cert.Softmax

open Idealize.ShloMosaic

/-- The exponential of a score less a bound of it is a real number from 0 on. -/
theorem exp_sub_nonneg (s m : EReal) : 0 ≤ Ideal.exp (s - m) := by
  induction s - m with
  | bot => exact le_refl _
  | coe r => exact EReal.coe_nonneg.mpr (Real.exp_pos r).le
  | top => exact le_top

/-- The exponential of a difference is not infinite where the difference is at most 0. -/
theorem exp_sub_ne_top {s m : EReal} (h : s ≤ m) : Ideal.exp (s - m) ≠ ⊤ := by
  induction m with
  | bot => rw [le_bot_iff.mp h]; exact EReal.zero_ne_top
  | top => rw [EReal.sub_top]; exact EReal.zero_ne_top
  | coe r =>
    induction s with
    | bot => rw [EReal.bot_sub]; exact EReal.zero_ne_top
    | coe q => rw [← EReal.coe_sub]; exact EReal.coe_ne_top _
    | top => exact absurd (top_le_iff.mp h) (EReal.coe_ne_top r)

/-- Rescaling from one bound of a score to a larger one. -/
theorem exp_mul {s a b : EReal} (h : s ≤ a) (h' : a ≤ b) :
    Ideal.exp (s - a) * Ideal.exp (a - b) = Ideal.exp (s - b) := by
  have z : ∀ t : EReal, Ideal.exp (⊥ - t) = 0 := fun t => by rw [EReal.bot_sub]; rfl
  have t0 : ∀ t : EReal, Ideal.exp (t - ⊤) = 0 := fun t => by rw [EReal.sub_top]; rfl
  induction b with
  | bot =>
    rw [le_bot_iff.mp h', z, mul_zero]
    rw [le_bot_iff.mp h'] at h
    rw [le_bot_iff.mp h, z]
  | top => rw [t0, t0, mul_zero]
  | coe b =>
    induction a with
    | bot => rw [le_bot_iff.mp h, z, z, zero_mul]
    | top => exact absurd (top_le_iff.mp h') (EReal.coe_ne_top b)
    | coe a =>
      induction s with
      | bot => rw [z, z, zero_mul]
      | top => exact absurd (top_le_iff.mp h) (EReal.coe_ne_top a)
      | coe s =>
        rw [← EReal.coe_sub, ← EReal.coe_sub, ← EReal.coe_sub]
        show ((Real.exp (s - a) : ℝ) : EReal) * ((Real.exp (a - b) : ℝ) : EReal)
          = ((Real.exp (s - b) : ℝ) : EReal)
        rw [← EReal.coe_mul, ← Real.exp_add, sub_add_sub_cancel]

/-- A factor from 0 on that is not infinite goes into a sum. -/
theorem sum_mul {ι : Type} (S : Finset ι) (f : ι → EReal) {a : EReal} (h : 0 ≤ a) (h' : a ≠ ⊤) :
    (∑ i ∈ S, f i) * a = ∑ i ∈ S, f i * a := by
  classical
  induction S using Finset.induction_on with
  | empty => rw [Finset.sum_empty, Finset.sum_empty, zero_mul]
  | insert i S hi ih =>
    rw [Finset.sum_insert hi, Finset.sum_insert hi,
      EReal.right_distrib_of_nonneg_of_ne_top h h', ih]

section Parts

variable {ι κ : Type} [Fintype κ] (S T : Finset ι) (s v : ι → κ → EReal)

/-- The largest score of the parts `S`, -/
def top : EReal := S.sup fun e => Finset.univ.sup (s e)

/-- the sum of the exponentials of the scores less `b`, -/
def den (b : EReal) : EReal := ∑ e ∈ S, ∑ j, Ideal.exp (s e j - b)

/-- and the values weighted by them. -/
def num (b : EReal) : EReal := ∑ e ∈ S, ∑ j, v e j * Ideal.exp (s e j - b)

variable {S}

theorem le_top_of_mem {e : ι} (he : e ∈ S) (j : κ) : s e j ≤ top S s :=
  (Finset.le_sup (f := s e) (Finset.mem_univ j)).trans
    (Finset.le_sup (f := fun e => Finset.univ.sup (s e)) he)

/-- The sum of the exponentials, rescaled to a larger bound. -/
theorem den_mul {b : EReal} (h : top S s ≤ b) :
    den S s (top S s) * Ideal.exp (top S s - b) = den S s b := by
  have h0 := exp_sub_nonneg (top S s) b
  have h1 := exp_sub_ne_top h
  unfold den
  rw [sum_mul _ _ h0 h1]
  refine Finset.sum_congr rfl fun e he => ?_
  rw [sum_mul _ _ h0 h1]
  exact Finset.sum_congr rfl fun j _ => exp_mul (le_top_of_mem s he j) h

/-- The weighted values, rescaled to a larger bound. -/
theorem num_mul {b : EReal} (h : top S s ≤ b) :
    num S s v (top S s) * Ideal.exp (top S s - b) = num S s v b := by
  have h0 := exp_sub_nonneg (top S s) b
  have h1 := exp_sub_ne_top h
  unfold num
  rw [sum_mul _ _ h0 h1]
  refine Finset.sum_congr rfl fun e he => ?_
  rw [sum_mul _ _ h0 h1]
  refine Finset.sum_congr rfl fun j _ => ?_
  rw [mul_assoc, exp_mul (le_top_of_mem s he j) h]

variable (S) [DecidableEq ι]

theorem top_union : top (S ∪ T) s = max (top S s) (top T s) := Finset.sup_union

variable {S T}

/-- Two parts' sums of exponentials merge. -/
theorem den_union (h : Disjoint S T) :
    den S s (top S s) * Ideal.exp (top S s - max (top S s) (top T s))
        + den T s (top T s) * Ideal.exp (top T s - max (top S s) (top T s))
      = den (S ∪ T) s (top (S ∪ T) s) := by
  rw [den_mul s (le_max_left _ _), den_mul s (le_max_right _ _), top_union]
  exact (Finset.sum_union h).symm

/-- Two parts' weighted values merge. -/
theorem num_union (h : Disjoint S T) :
    num S s v (top S s) * Ideal.exp (top S s - max (top S s) (top T s))
        + num T s v (top T s) * Ideal.exp (top T s - max (top S s) (top T s))
      = num (S ∪ T) s v (top (S ∪ T) s) := by
  rw [num_mul s v (le_max_left _ _), num_mul s v (le_max_right _ _), top_union]
  exact (Finset.sum_union h).symm

end Parts

end Cert.Softmax

end
-- ==== Proof.KernelIdeal.Merge.lean ====
/- What the ring's slots hold over the extended reals: softmax attention of a part of the keys. -/
module

public import proofs.«01_k».proof.Proof.KernelIdeal.Proto
public import proofs.«01_k».proof.Proof.KernelIdeal.Read
public import proofs.«01_k».proof.Proof.Softmax

@[expose] public section

noncomputable section

namespace Cert.KernelIdeal.Ring

open Idealize.ShloMosaic
open Cert.KernelIdeal Cert.KernelIdeal.Gen
open Cert.Softmax

/-- A slot holds the attention of the queries `q` over the devices `S`: the largest scores, the sums of
    exponentials, and the weighted values. -/
def Holds (q : Vec Ideal S256x1024 .f32) (k v : Dev nD → Vec Ideal S4096x1024 .f32)
    (X : Slot Ideal) (S : Finset (Dev nD)) : Prop :=
  ∀ (h : Fin 8) (i : Fin 256),
    X.ml (ix3 0 h i) = top S (fun e => score q (k e) h i)
    ∧ X.ml (ix3 1 h i)
        = den S (fun e => score q (k e) h i) (top S fun e => score q (k e) h i)
    ∧ ∀ d : Fin 128, X.acc (ix2 (col h d) i)
        = num S (fun e => score q (k e) h i) (fun e j => v e (ix2 j (col h d)))
            (top S fun e => score q (k e) h i)

section

variable {q : Vec Ideal S256x1024 .f32} {k v : Dev nD → Vec Ideal S4096x1024 .f32}

/-- A device's own sums hold the attention over that device. -/
theorem holds_part (e : Dev nD) : Holds q k v (part q (k e) (v e)) {e} := fun h i => by
  have t : top {e} (fun e => score q (k e) h i) = Finset.univ.sup (score q (k e) h i) :=
    Finset.sup_singleton
  refine ⟨by rw [t, part_m], ?_, fun d => ?_⟩
  · rw [t, part_l]
    exact (Finset.sum_singleton _ _).symm
  · rw [t, part_a]
    exact (Finset.sum_singleton _ _).symm

variable {R P : Slot Ideal} {S T : Finset (Dev nD)}

theorem mrgM_eq (hR : Holds q k v R S) (hP : Holds q k v P T) (h : Fin 8) (i : Fin 256) :
    mrgM R P h i = max (top S fun e => score q (k e) h i) (top T fun e => score q (k e) h i) := by
  unfold mrgM
  rw [(hR h i).1, (hP h i).1]

theorem mrgL_eq (hR : Holds q k v R S) (hP : Holds q k v P T) (hd : Disjoint S T) (h : Fin 8)
    (i : Fin 256) : mrgL R P h i
      = den (S ∪ T) (fun e => score q (k e) h i) (top (S ∪ T) fun e => score q (k e) h i) := by
  rw [← den_union _ hd]
  unfold mrgL
  rw [mrgM_eq hR hP, (hR h i).1, (hP h i).1, (hR h i).2.1, (hP h i).2.1]

theorem mrgA_eq (hR : Holds q k v R S) (hP : Holds q k v P T) (hd : Disjoint S T) (h : Fin 8)
    (d : Fin 128) (i : Fin 256) : mrgA R P h d i
      = num (S ∪ T) (fun e => score q (k e) h i) (fun e j => v e (ix2 j (col h d)))
          (top (S ∪ T) fun e => score q (k e) h i) := by
  rw [← num_union _ _ hd]
  unfold mrgA
  rw [mrgM_eq hR hP, (hR h i).1, (hP h i).1, (hR h i).2.2, (hP h i).2.2]

/-- Merging two slots holds the attention over both parts. -/
theorem holds_comb (hR : Holds q k v R S) (hP : Holds q k v P T) (hd : Disjoint S T) :
    Holds q k v (comb R P) (S ∪ T) := fun h i =>
  ⟨by rw [comb_m, mrgM_eq hR hP, top_union], by rw [comb_l, mrgL_eq hR hP hd],
    fun d => by rw [comb_a, mrgA_eq hR hP hd]⟩

end

/-! ## Around the ring -/

variable (B : Blocks Ideal) (c : Dev nD)

/-- The queries of a device. -/
def qry : Vec Ideal S256x1024 .f32 := qVal (B.x c) (B.wq c)

theorem prv_four (c : Dev nD) : prv (prv (prv (prv c))) = c := by revert c; decide

theorem holds_P0 : Holds (qry B c) B.k B.v (P B 0 c) {c} := holds_part c

theorem holds_P1 : Holds (qry B c) B.k B.v (P B 1 (prv (prv (prv c)))) {prv (prv (prv c))} := by
  have e : qry B c = Qs B 1 (prv (prv (prv c))) := by
    conv_lhs => rw [← prv_four c]
    rfl
  rw [e]
  exact holds_part _

theorem holds_P2 : Holds (qry B c) B.k B.v (P B 2 (prv (prv c))) {prv (prv c)} := by
  have e : qry B c = Qs B 2 (prv (prv c)) := by
    conv_lhs => rw [← prv_four c]
    rfl
  rw [e]
  exact holds_part _

theorem holds_P3 : Holds (qry B c) B.k B.v (P B 3 (prv c)) {prv c} := by
  have e : qry B c = Qs B 3 (prv c) := by
    conv_lhs => rw [← prv_four c]
    rfl
  rw [e]
  exact holds_part _

theorem ring_sets (c : Dev nD) : Disjoint {prv (prv (prv c))} ({prv (prv c)} : Finset (Dev nD))
    ∧ Disjoint ({prv (prv (prv c))} ∪ {prv (prv c)}) ({prv c} : Finset (Dev nD))
    ∧ Disjoint ({prv (prv (prv c))} ∪ {prv (prv c)} ∪ {prv c}) ({c} : Finset (Dev nD))
    ∧ {prv (prv (prv c))} ∪ {prv (prv c)} ∪ {prv c} ∪ {c} = (Finset.univ : Finset (Dev nD)) := by
  revert c; decide

/-- What comes back to a device holds its queries' attention over every other device. -/
theorem holds_C : Holds (qry B c) B.k B.v (C B 2 (prv c))
    ({prv (prv (prv c))} ∪ {prv (prv c)} ∪ {prv c}) :=
  holds_comb (holds_comb (holds_P1 B c) (holds_P2 B c) (ring_sets c).1) (holds_P3 B c)
    (ring_sets c).2.1

/-- A score of device `c`'s queries against device `e`'s keys. -/
def sc (h : Fin 8) (i : Fin 256) (e : Dev nD) (j : Fin 4096) : EReal :=
  score (qry B c) (B.k e) h i j

/-- The normalised heads are softmax attention over all the keys. -/
theorem fin_apply (h : Fin 8) (d : Fin 128) (i : Fin 256) : fin B c (ix2 (col h d) i)
    = Ideal.div
        (num Finset.univ (sc B c h i) (fun e j => B.v e (ix2 j (col h d)))
          (top Finset.univ (sc B c h i)))
        (den Finset.univ (sc B c h i) (top Finset.univ (sc B c h i))) := by
  unfold fin
  rw [combN_apply, mrgA_eq (holds_C B c) (holds_P0 B c) (ring_sets c).2.2.1,
    mrgL_eq (holds_C B c) (holds_P0 B c) (ring_sets c).2.2.1, (ring_sets c).2.2.2]
  rfl

/-- The result, element by element. -/
theorem outC_apply (i : Fin 256) (n : Fin 1024) :
    outC B c (ix2 i n) = ∑ a : Fin 1024, fin B c (ix2 a i) * B.wo c (ix2 a n) :=
  outVal_apply _ _ i n

end Cert.KernelIdeal.Ring
-- ==== Proof.ReferenceIdeal.Read.lean ====
/- What the reference computes over the extended reals, element by element. -/
module

public import proofs.«01_k».proof.Proof.Gen.ReferenceIdeal
public import Idealize.ShloMosaic.Lib.Pointwise

@[expose] public section

set_option maxRecDepth 16384

noncomputable section

namespace Cert.ReferenceIdeal.Attn

open Idealize.ShloMosaic
open Cert.ReferenceIdeal Cert.ReferenceIdeal.Gen

variable (x wq wo : FVec Ideal S1024x1024 .f32) (k v : FVec Ideal S16384x1024 .f32)

/-- The queries, -/
def qR : FVec Ideal S1024x1024 .f32 :=
  Host.dotGeneral dot_S1024x1024_S1024x1024_S1024x1024_1_0_0_1_n_n none x wq

/-- the scores of the queries `q`, -/
def sR (q : FVec Ideal S1024x1024 .f32) : FVec Ideal S8x1024x16384 .f32 :=
  mulf (Host.dotGeneral dot_S1024x8x128_S16384x8x128_S8x1024x16384_2_2_0_0_1_1 none
      (shapeCast _ q shapeCasts_S1024x1024_S1024x8x128)
      (shapeCast _ k shapeCasts_S16384x1024_S16384x8x128))
    (broadcastInDim S8x1024x16384 ![] bcast_S_S8x1024x16384 (constant S_ .f32 0x3DB504F3#32))

/-- the largest of the scores `s` of a query, -/
def mR (s : FVec Ideal S8x1024x16384 .f32) : FVec Ideal S8x1024 .f32 :=
  Host.reduce FloatOps.maximumf s (constant S_ .f32 0xFF800000#32)
    reducesTo_S8x1024x16384_S8x1024_d2 h_S_

/-- the exponentials, -/
def pR (s : FVec Ideal S8x1024x16384 .f32) : FVec Ideal S8x1024x16384 .f32 :=
  Host.exp (subf s (broadcastInDim S8x1024x16384 ![0, 1, 2] bcast_S8x1024x1_S8x1024x16384_0_1_2
    (broadcastInDim S8x1024x1 ![0, 1] bcast_S8x1024_S8x1024x1_0_1 (mR s))))

/-- the sums of the exponentials `p`, -/
def lR (p : FVec Ideal S8x1024x16384 .f32) : FVec Ideal S8x1024 .f32 :=
  Host.reduceAdd p (constant S_ .f32 0x00000000#32) reducesTo_S8x1024x16384_S8x1024_d2 h_S_

/-- the values weighted by them, -/
def oR (p : FVec Ideal S8x1024x16384 .f32) : FVec Ideal S8x128x1024 .f32 :=
  Host.dotGeneral dot_S16384x8x128_S8x1024x16384_S8x128x1024_0_2_2_1_1_0 none
    (shapeCast _ v shapeCasts_S16384x1024_S16384x8x128) p

/-- the attention of the weighted values `o` and the sums `l`, -/
def aR (o : FVec Ideal S8x128x1024 .f32) (l : FVec Ideal S8x1024 .f32) :
    FVec Ideal S1024x1024 .f32 :=
  shapeCast _ (Host.divf (transpose S1024x8x128 [2, 0, 1] o transposes_S8x128x1024_S1024x8x128_2_0_1)
    (broadcastInDim S1024x8x128 ![0, 1, 2] bcast_S1024x8x1_S1024x8x128_0_1_2
      (broadcastInDim S1024x8x1 ![0, 1] bcast_S1024x8_S1024x8x1_0_1
        (transpose S1024x8 [1, 0] l transposes_S8x1024_S1024x8_1_0))))
    shapeCasts_S1024x8x128_S1024x1024

/-- and the result. -/
def outR : FVec Ideal S1024x1024 .f32 :=
  Host.dotGeneral dot_S1024x1024_S1024x1024_S1024x1024_1_0_0_1_n_n none
    (aR (oR v (pR (sR k (qR x wq)))) (lR (pR (sR k (qR x wq))))) wo

/-- Column `d` of head `h`. -/
def col (h : Fin 8) (d : Fin 128) : Fin 1024 := ⟨h.val * 128 + d.val, by omega⟩

theorem qR_apply (r n : Fin 1024) :
    qR x wq (ix2 r n) = ∑ a : Fin 1024, x (ix2 r a) * wq (ix2 a n) := by
  pointwise [qR]

theorem sR_apply (q : FVec Ideal S1024x1024 .f32) (h : Fin 8) (r : Fin 1024) (j : Fin 16384) :
    sR k q (ix3 h r j) = (∑ d : Fin 128, q (ix2 r (col h d)) * k (ix2 j (col h d)))
      * Ideal.ofBits .f32 0x3DB504F3#32 := by
  pointwise [sR, col]

theorem mR_apply (s : FVec Ideal S8x1024x16384 .f32) (h : Fin 8) (r : Fin 1024) :
    mR s (ix2 h r) = Finset.univ.sup fun j : Fin 16384 => s (ix3 h r j) := by
  pointwise [mR]
  rw [show Ideal.ofBits .f32 4286578688#32 = ⊥ by simp [Ideal.ofBits, Ideal.ieee]]
  rfl

theorem pR_apply (s : FVec Ideal S8x1024x16384 .f32) (h : Fin 8) (r : Fin 1024) (j : Fin 16384) :
    pR s (ix3 h r j) = Ideal.exp (s (ix3 h r j) - mR s (ix2 h r)) := by
  pointwise [pR]

theorem lR_apply (p : FVec Ideal S8x1024x16384 .f32) (h : Fin 8) (r : Fin 1024) :
    lR p (ix2 h r) = ∑ j : Fin 16384, p (ix3 h r j) := by
  pointwise [lR]

theorem oR_apply (p : FVec Ideal S8x1024x16384 .f32) (h : Fin 8) (d : Fin 128) (r : Fin 1024) :
    oR v p (ix3 h d r) = ∑ j : Fin 16384, v (ix2 j (col h d)) * p (ix3 h r j) := by
  pointwise [oR, col]

theorem aR_apply (o : FVec Ideal S8x128x1024 .f32) (l : FVec Ideal S8x1024 .f32) (h : Fin 8)
    (d : Fin 128) (r : Fin 1024) :
    aR o l (ix2 r (col h d)) = Ideal.div (o (ix3 h d r)) (l (ix2 h r)) := by
  pointwise [aR, col]

theorem outR_apply (r n : Fin 1024) : outR x wq wo k v (ix2 r n)
    = ∑ a : Fin 1024, aR (oR v (pR (sR k (qR x wq)))) (lR (pR (sR k (qR x wq)))) (ix2 r a)
        * wo (ix2 a n) := by
  pointwise [outR]

end Cert.ReferenceIdeal.Attn
-- ==== Proof.Value.lean ====
/- The kernel's result is the reference's, cut in rows. -/
module

public import proofs.«01_k».proof.Proof.KernelIdeal.Merge
public import proofs.«01_k».proof.Proof.ReferenceIdeal.Read
public import Idealize.ShloMosaic.Lib.Layout

@[expose] public section

noncomputable section

namespace Cert.Attention

open Idealize.ShloMosaic
open Cert.KernelIdeal (nD S256x1024 S4096x1024 S1024x1024)
open Cert.KernelIdeal.Ring (Blocks outC qry sc score qVal)
open Cert.ReferenceIdeal.Attn Cert.Softmax

/-! ## The keys of four devices -/

/-- The place of device `e`'s row `j` among all the rows of keys, -/
def key (e : Dev nD) (j : Fin 4096) : Fin 16384 :=
  ⟨e.val * 4096 + j.val, by have := e.isLt; simp only [nD] at this; omega⟩

/-- and of device `c`'s row `i` among all the queries. -/
def row (c : Dev nD) (i : Fin 256) : Fin 1024 :=
  ⟨c.val * 256 + i.val, by have := c.isLt; simp only [nD] at this; omega⟩

/-- Every row of keys is some device's. -/
theorem key_surj (J : Fin 16384) : ∃ e j, key e j = J :=
  ⟨⟨J.val / 4096, by simp only [nD]; omega⟩, ⟨J.val % 4096, by omega⟩, Fin.ext (by
    show J.val / 4096 * 4096 + J.val % 4096 = J.val
    omega)⟩

theorem key_inj {e e' : Dev nD} {j j' : Fin 4096} (h : key e j = key e' j') : e = e' ∧ j = j' := by
  have h' : e.val * 4096 + j.val = e'.val * 4096 + j'.val := congrArg Fin.val h
  exact ⟨Fin.ext (by omega), Fin.ext (by omega)⟩

/-- A sum over all the rows of keys, device by device, -/
theorem sum_keys (f : Fin 16384 → EReal) : ∑ J, f J = ∑ e : Dev nD, ∑ j, f (key e j) := by
  rw [← Fintype.sum_prod_type']
  refine (Fintype.sum_bijective (fun p : Dev nD × Fin 4096 => key p.1 p.2) ⟨?_, ?_⟩ _ _
    fun _ => rfl).symm
  · rintro ⟨e, j⟩ ⟨e', j'⟩ h
    exact Prod.ext (key_inj h).1 (key_inj h).2
  · intro J
    obtain ⟨e, j, h⟩ := key_surj J
    exact ⟨(e, j), h⟩

/-- and the largest of numbers over all the rows. -/
theorem sup_keys (f : Fin 16384 → EReal) :
    (Finset.univ.sup f) = top (Finset.univ : Finset (Dev nD)) fun e j => f (key e j) := by
  refine le_antisymm (Finset.sup_le fun J _ => ?_)
    (Finset.sup_le fun e _ => Finset.sup_le fun j _ => Finset.le_sup (Finset.mem_univ _))
  obtain ⟨e, j, rfl⟩ := key_surj J
  exact le_top_of_mem (fun e j => f (key e j)) (Finset.mem_univ e) j

/-! ## The blocks -/

theorem block_rows (c : Dev nD) (v : FVec Ideal S1024x1024 .f32) (i : Fin 256) (n : Fin 1024) :
    (Layout.block ⟨2, ![256, 1024]⟩ ⟨2, ![1024, 1024]⟩ 0 4 c v) (ix2 i n) = v (ix2 (row c i) n) := by
  refine congrArg v (funext fun a => Fin.ext ?_)
  match a with
  | ⟨0, _⟩ => rfl
  | ⟨1, _⟩ => rfl

theorem block_keys (c : Dev nD) (v : FVec Ideal ⟨2, ![16384, 1024]⟩ .f32) (j : Fin 4096)
    (n : Fin 1024) :
    (Layout.block ⟨2, ![4096, 1024]⟩ ⟨2, ![16384, 1024]⟩ 0 4 c v) (ix2 j n)
      = v (ix2 (key c j) n) := by
  refine congrArg v (funext fun a => Fin.ext ?_)
  match a with
  | ⟨0, _⟩ => rfl
  | ⟨1, _⟩ => rfl

/-- The scale of the scores is a real number, -/
theorem scale_eq : Ideal.ofBits .f32 0x3DB504F3#32 = ((11863283 * (2 ^ 27)⁻¹ : ℝ) : EReal) := by
  rw [EReal.coe_mul]
  simp [Ideal.ofBits, Ideal.ieee]

/-- not negative, -/
theorem scale_nonneg : 0 ≤ Ideal.ofBits .f32 0x3DB504F3#32 := by
  rw [scale_eq]
  exact EReal.coe_nonneg.mpr (by positivity)

/-- and not infinite. -/
theorem scale_ne_top : Ideal.ofBits .f32 0x3DB504F3#32 ≠ ⊤ := by
  rw [scale_eq]
  exact EReal.coe_ne_top _

/-- The columns of a head are numbered alike on both sides. -/
theorem col_eq (h : Fin 8) (d : Fin 128) :
    Cert.KernelIdeal.Ring.col h d = Cert.ReferenceIdeal.Attn.col h d :=
  Fin.ext (by
    show 128 * h.val + d.val = h.val * 128 + d.val
    omega)

/-- Every column is a column of a head. -/
theorem col_surj (a : Fin 1024) : ∃ h d, Cert.ReferenceIdeal.Attn.col h d = a :=
  ⟨⟨a.val / 128, by omega⟩, ⟨a.val % 128, by omega⟩, Fin.ext (by
    show a.val / 128 * 128 + a.val % 128 = a.val
    omega)⟩

section

variable (B : Blocks Ideal) (x wq wo : FVec Ideal S1024x1024 .f32)
  (k v : FVec Ideal ⟨2, ![16384, 1024]⟩ .f32)

/-- The devices' blocks are the whole arrays' parts. -/
structure Parts : Prop where
  x : ∀ c, B.x c = Layout.block ⟨2, ![256, 1024]⟩ ⟨2, ![1024, 1024]⟩ 0 4 c x
  wq : ∀ c, B.wq c = wq
  wo : ∀ c, B.wo c = wo
  k : ∀ c, B.k c = Layout.block ⟨2, ![4096, 1024]⟩ ⟨2, ![16384, 1024]⟩ 0 4 c k
  v : ∀ c, B.v c = Layout.block ⟨2, ![4096, 1024]⟩ ⟨2, ![16384, 1024]⟩ 0 4 c v

variable {B x wq wo k v} (H : Parts B x wq wo k v)
include H

/-- A device's queries are the reference's, scaled. -/
theorem qry_eq (c : Dev nD) (i : Fin 256) (n : Fin 1024) :
    qry B c (ix2 i n) = qR x wq (ix2 (row c i) n) * Ideal.ofBits .f32 0x3DB504F3#32 := by
  unfold qry
  rw [Cert.KernelIdeal.Ring.qVal_apply, qR_apply, H.wq c, H.x c]
  exact congrArg (· * _) (Finset.sum_congr rfl fun a _ => by rw [block_rows])

/-- The scores are the reference's. -/
theorem sc_eq (c : Dev nD) (h : Fin 8) (i : Fin 256) (e : Dev nD) (j : Fin 4096) :
    sc B c h i e j = sR k (qR x wq) (ix3 h (row c i) (key e j)) := by
  unfold sc score
  rw [sR_apply, sum_mul _ _ scale_nonneg scale_ne_top]
  refine Finset.sum_congr rfl fun d _ => ?_
  rw [qry_eq H, H.k e, block_keys, col_eq]
  ac_rfl

/-- The heads are the reference's. -/
theorem fin_eq (c : Dev nD) (i : Fin 256) (a : Fin 1024) :
    Cert.KernelIdeal.Ring.fin B c (ix2 a i)
      = aR (oR v (pR (sR k (qR x wq)))) (lR (pR (sR k (qR x wq)))) (ix2 (row c i) a) := by
  obtain ⟨h, d, rfl⟩ := col_surj a
  have hs : sc B c h i = fun e j => sR k (qR x wq) (ix3 h (row c i) (key e j)) :=
    funext fun e => funext fun j => sc_eq H c h i e j
  rw [aR_apply, ← col_eq, Cert.KernelIdeal.Ring.fin_apply, oR_apply, lR_apply, sum_keys, sum_keys,
    hs]
  simp only [pR_apply, mR_apply]
  rw [sup_keys]
  unfold num den
  congr 1
  refine Finset.sum_congr rfl fun e _ => Finset.sum_congr rfl fun j _ => ?_
  dsimp only
  rw [H.v e, block_keys, col_eq]

/-- A device's result is its rows of the reference's. -/
theorem outC_eq (c : Dev nD) : outC B c
    = Layout.block ⟨2, ![256, 1024]⟩ ⟨2, ![1024, 1024]⟩ 0 4 c (outR x wq wo k v) := by
  funext j
  obtain ⟨i, n, rfl⟩ : ∃ (i : Fin 256) (n : Fin 1024), j = ix2 i n := ⟨j 0, j 1, eq_ix2 j⟩
  rw [block_rows, Cert.KernelIdeal.Ring.outC_apply, outR_apply, H.wo c]
  exact Finset.sum_congr rfl fun a _ => by rw [fin_eq H]

end

end Cert.Attention
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value
public import Idealize.ShloMosaic.Lib.Quiescent

@[expose] public section

noncomputable section

namespace Cert.Proof

open Idealize.ShloMosaic Idealize.SL.Sem

theorem quiescent_kernel : Cert.quiescent_Kernel (hKernel := Cert.Kernel.Gen.facts) :=
  fun m g _ => (θ_run Cert.Kernel.defs _ _).mono (fun _ h => ⟨fun c => (h.1 c).2, h.2⟩)
    (Cert.Kernel.Ring.run_main (F := Bits) m g)

theorem quiescent_kernelIdeal : Cert.quiescent_KernelIdeal (hKernelIdeal := Cert.KernelIdeal.Gen.facts) :=
  fun m g _ => (θ_run Cert.KernelIdeal.defs _ _).mono (fun _ h => ⟨fun c => (h.1 c).2, h.2⟩)
    (Cert.KernelIdeal.Ring.run_main (F := Ideal) m g)

theorem quiescent_reference : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems rfl r.2⟩)
    (Cert.ReferenceIdeal.Value.run (F := Ideal) m g)

/-- Over the extended reals each device's result is its rows of the reference's. -/
theorem algebraic : Cert.algebraic_KernelIdeal_ReferenceIdeal
    (hKernelIdeal := Cert.KernelIdeal.Gen.facts) (hReferenceIdeal := Cert.ReferenceIdeal.Gen.facts) :=
  fun m g m' g' _ ha =>
    ⟨_, (θ_run Cert.KernelIdeal.defs _ _).mono
      (fun _ h c => ⟨(h.1 c).1.trans (Cert.Attention.outC_eq
        (B := Cert.KernelIdeal.Ring.blocks m)
        ⟨fun c => (ha c).1, fun c => (ha c).2.1, fun c => (ha c).2.2.1, fun c => (ha c).2.2.2.1,
          fun c => (ha c).2.2.2.2⟩ c), (h.1 c).2⟩)
      (Cert.KernelIdeal.Ring.run_main (F := Ideal) m g),
    (θ_run Cert.ReferenceIdeal.defs _ _).mono (fun _ h => h 0)
      (Cert.ReferenceIdeal.Value.run (F := Ideal) m' g')⟩

theorem claim : Cert.Claim :=
  ⟨Cert.Kernel.Gen.facts, Cert.KernelIdeal.Gen.facts, Cert.ReferenceIdeal.Gen.facts,
    quiescent_kernel, quiescent_kernelIdeal, quiescent_reference, trivial, algebraic⟩

end Cert.Proof

end
